-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x84x8400 : Shape := ⟨3, ![16, 84, 8400]⟩
abbrev S16x3x640x640 : Shape := ⟨4, ![16, 3, 640, 640]⟩
abbrev S16x66x8x128 : Shape := ⟨4, ![16, 66, 8, 128]⟩
abbrev S1x84x8400 : Shape := ⟨3, ![1, 84, 8400]⟩
abbrev S1x66x8x128 : Shape := ⟨4, ![1, 66, 8, 128]⟩
abbrev S1x4x128 : Shape := ⟨3, ![1, 4, 128]⟩
abbrev S4x128 : Shape := ⟨2, ![4, 128]⟩
abbrev S1x80x128 : Shape := ⟨3, ![1, 80, 128]⟩
abbrev S80x128 : Shape := ⟨2, ![80, 128]⟩
abbrev S128 : Shape := ⟨1, ![128]⟩
abbrev S1x128 : Shape := ⟨2, ![1, 128]⟩
abbrev S8x128 : Shape := ⟨2, ![8, 128]⟩
abbrev S1x1x8x128 : Shape := ⟨4, ![1, 1, 8, 128]⟩
abbrev S1x4x80 : Shape := ⟨3, ![1, 4, 80]⟩
abbrev S4x80 : Shape := ⟨2, ![4, 80]⟩
abbrev S1x80x80 : Shape := ⟨3, ![1, 80, 80]⟩
abbrev S80x80 : Shape := ⟨2, ![80, 80]⟩
abbrev S4x48 : Shape := ⟨2, ![4, 48]⟩
abbrev S80x48 : Shape := ⟨2, ![80, 48]⟩
abbrev S16x66x1x128 : Shape := ⟨4, ![16, 66, 1, 128]⟩
abbrev S16x66x128 : Shape := ⟨3, ![16, 66, 128]⟩
abbrev S16x8448 : Shape := ⟨2, ![16, 8448]⟩
abbrev S16x1024 : Shape := ⟨2, ![16, 1024]⟩
abbrev S16x8x128 : Shape := ⟨3, ![16, 8, 128]⟩
abbrev S16x4x1024 : Shape := ⟨3, ![16, 4, 1024]⟩
abbrev S16x1x1024 : Shape := ⟨3, ![16, 1, 1024]⟩
abbrev S1x8x128 : Shape := ⟨3, ![1, 8, 128]⟩
abbrev S1x4x1024 : Shape := ⟨3, ![1, 4, 1024]⟩
abbrev S1x1x1024 : Shape := ⟨3, ![1, 1, 1024]⟩
abbrev S1024x1024 : Shape := ⟨2, ![1024, 1024]⟩
abbrev S1x1x128 : Shape := ⟨3, ![1, 1, 128]⟩
abbrev S8x128x1 : Shape := ⟨3, ![8, 128, 1]⟩
abbrev S8x1024 : Shape := ⟨2, ![8, 1024]⟩
abbrev S1x1024 : Shape := ⟨2, ![1, 1024]⟩
abbrev S8x8 : Shape := ⟨2, ![8, 8]⟩
abbrev S1024x8 : Shape := ⟨2, ![1024, 8]⟩
abbrev S64x1 : Shape := ⟨2, ![64, 1]⟩
abbrev S64x1024 : Shape := ⟨2, ![64, 1024]⟩
abbrev S1x8x1024 : Shape := ⟨3, ![1, 8, 1024]⟩
abbrev S1 : Shape := ⟨1, ![1]⟩
abbrev S1x1x1 : Shape := ⟨3, ![1, 1, 1]⟩
abbrev S4x1024 : Shape := ⟨2, ![4, 1024]⟩
abbrev S16x1024x4 : Shape := ⟨3, ![16, 1024, 4]⟩
abbrev S_ : Shape := ⟨0, ![]⟩

abbrev nBuf : Space → Nat
  | .hbm => 21
  | .vmem => 17
  | .smem => 0
  | _ => 0

abbrev bufTy : (tb : Table) → Fin (tcTables nBuf tb) → BufTy
  | .hbm, ⟨0, _⟩ => ⟨S16x84x8400, .f32⟩
  | .hbm, ⟨1, _⟩ => ⟨S16x3x640x640, .f32⟩
  | .hbm, ⟨2, _⟩ => ⟨S16x66x8x128, .f32⟩
  | .hbm, ⟨3, _⟩ => ⟨S16x66x1x128, .f32⟩
  | .hbm, ⟨4, _⟩ => ⟨S16x66x128, .f32⟩
  | .hbm, ⟨5, _⟩ => ⟨S16x8448, .f32⟩
  | .hbm, ⟨6, _⟩ => ⟨S16x1024, .f32⟩
  | .hbm, ⟨7, _⟩ => ⟨S16x1024, .i32⟩
  | .hbm, ⟨8, _⟩ => ⟨S16x8x128, .i32⟩
  | .hbm, ⟨9, _⟩ => ⟨S16x4x1024, .f32⟩
  | .hbm, ⟨10, _⟩ => ⟨S16x1x1024, .f32⟩
  | .hbm, ⟨11, _⟩ => ⟨S16x1x1024, .i32⟩
  | .hbm, ⟨12, _⟩ => ⟨S16x1x1024, .i32⟩
  | .hbm, ⟨13, _⟩ => ⟨S16x1024x4, .f32⟩
  | .hbm, ⟨14, _⟩ => ⟨S16x1024, .f32⟩
  | .hbm, ⟨15, _⟩ => ⟨S16x1024, .i32⟩
  | .hbm, ⟨16, _⟩ => ⟨S16x1024, .i32⟩
  | .hbm, ⟨17, _⟩ => ⟨S_, .i32⟩
  | .hbm, ⟨18, _⟩ => ⟨S16x1024, .i32⟩
  | .hbm, ⟨19, _⟩ => ⟨S16x1024, .i1⟩
  | .hbm, ⟨20, _⟩ => ⟨S16x1024, .i1⟩
  | .local _ .vmem, ⟨0, _⟩ => ⟨S1x84x8400, .f32⟩
  | .local _ .vmem, ⟨1, _⟩ => ⟨S1x84x8400, .f32⟩
  | .local _ .vmem, ⟨2, _⟩ => ⟨S1x66x8x128, .f32⟩
  | .local _ .vmem, ⟨3, _⟩ => ⟨S1x66x8x128, .f32⟩
  | .local _ .vmem, ⟨4, _⟩ => ⟨S1x66x8x128, .f32⟩
  | .local _ .vmem, ⟨5, _⟩ => ⟨S1x66x8x128, .f32⟩
  | .local _ .vmem, ⟨6, _⟩ => ⟨S1x8x128, .i32⟩
  | .local _ .vmem, ⟨7, _⟩ => ⟨S1x8x128, .i32⟩
  | .local _ .vmem, ⟨8, _⟩ => ⟨S1x4x1024, .f32⟩
  | .local _ .vmem, ⟨9, _⟩ => ⟨S1x4x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .i32⟩
  | .local _ .vmem, ⟨13, _⟩ => ⟨S1x1x1024, .i32⟩
  | .local _ .vmem, ⟨14, _⟩ => ⟨S1x1x1024, .i32⟩
  | .local _ .vmem, ⟨15, _⟩ => ⟨S1x1x1024, .i32⟩
  | .local _ .vmem, ⟨16, _⟩ => ⟨S1024x1024, .bf16⟩
  | _, _ => ⟨S16x84x8400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_values : Ref sig .tc := ⟨.hbm, 6, rfl⟩
abbrev main_indices : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x84x8400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x66x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x66x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1024 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S16x84x8400 : Shape := ⟨3, ![16, 84, 8400]⟩
abbrev S16x3x640x640 : Shape := ⟨4, ![16, 3, 640, 640]⟩
abbrev S16x4x8400 : Shape := ⟨3, ![16, 4, 8400]⟩
abbrev S16x8400x4 : Shape := ⟨3, ![16, 8400, 4]⟩
abbrev S16x80x8400 : Shape := ⟨3, ![16, 80, 8400]⟩
abbrev S16x8400x80 : Shape := ⟨3, ![16, 8400, 80]⟩
abbrev S_ : Shape := ⟨0, ![]⟩
abbrev S16x8400 : Shape := ⟨2, ![16, 8400]⟩
abbrev S16x8400x1 : Shape := ⟨3, ![16, 8400, 1]⟩
abbrev S16x1024 : Shape := ⟨2, ![16, 1024]⟩
abbrev S16x1024x1 : Shape := ⟨3, ![16, 1024, 1]⟩
abbrev S1 : Shape := ⟨1, ![1]⟩
abbrev S1x1x1 : Shape := ⟨3, ![1, 1, 1]⟩
abbrev S16x1024x4 : Shape := ⟨3, ![16, 1024, 4]⟩
abbrev S16x1024x2 : Shape := ⟨3, ![16, 1024, 2]⟩
abbrev S16x1024x1x2 : Shape := ⟨4, ![16, 1024, 1, 2]⟩
abbrev S16x1x1024x2 : Shape := ⟨4, ![16, 1, 1024, 2]⟩
abbrev S16x1024x1024x2 : Shape := ⟨4, ![16, 1024, 1024, 2]⟩
abbrev S16x1024x1024x1 : Shape := ⟨4, ![16, 1024, 1024, 1]⟩
abbrev S16x1024x1024 : Shape := ⟨3, ![16, 1024, 1024]⟩
abbrev S16x1x1024 : Shape := ⟨3, ![16, 1, 1024]⟩
abbrev S1024 : Shape := ⟨1, ![1024]⟩
abbrev S1x1024 : Shape := ⟨2, ![1, 1024]⟩
abbrev S16x1 : Shape := ⟨2, ![16, 1]⟩
abbrev S4 : Shape := ⟨1, ![4]⟩
abbrev S1x1x4 : Shape := ⟨3, ![1, 1, 4]⟩

abbrev nBuf : Space → Nat
  | .hbm => 240
  | .vmem => 0
  | .smem => 0
  | _ => 0

abbrev hbmTy0_0 (i : Nat) : BufTy := match i % 128 with
  | 0 => ⟨S16x84x8400, .f32⟩
  | 1 => ⟨S16x3x640x640, .f32⟩
  | 2 => ⟨S16x4x8400, .f32⟩
  | 3 => ⟨S16x8400x4, .f32⟩
  | 4 => ⟨S16x80x8400, .f32⟩
  | 5 => ⟨S16x8400x80, .f32⟩
  | 6 => ⟨S_, .f32⟩
  | 7 => ⟨S16x8400, .f32⟩
  | 8 => ⟨S16x8400x80, .i32⟩
  | 9 => ⟨S_, .f32⟩
  | 10 => ⟨S_, .i32⟩
  | 11 => ⟨S16x8400, .f32⟩
  | 12 => ⟨S16x8400, .i32⟩
  | 13 => ⟨S16x8400x1, .f32⟩
  | 14 => ⟨S16x8400, .f32⟩
  | 15 => ⟨S16x8400x1, .f32⟩
  | 16 => ⟨S16x8400, .f32⟩
  | 17 => ⟨S16x8400x1, .f32⟩
  | 18 => ⟨S16x8400, .f32⟩
  | 19 => ⟨S16x8400x1, .f32⟩
  | 20 => ⟨S16x8400, .f32⟩
  | 21 => ⟨S_, .f32⟩
  | 22 => ⟨S16x8400, .f32⟩
  | 23 => ⟨S16x8400, .f32⟩
  | 24 => ⟨S16x8400, .f32⟩
  | 25 => ⟨S_, .f32⟩
  | 26 => ⟨S16x8400, .f32⟩
  | 27 => ⟨S16x8400, .f32⟩
  | 28 => ⟨S16x8400, .f32⟩
  | 29 => ⟨S_, .f32⟩
  | 30 => ⟨S16x8400, .f32⟩
  | 31 => ⟨S16x8400, .f32⟩
  | 32 => ⟨S16x8400, .f32⟩
  | 33 => ⟨S_, .f32⟩
  | 34 => ⟨S16x8400, .f32⟩
  | 35 => ⟨S16x8400, .f32⟩
  | 36 => ⟨S16x8400, .f32⟩
  | 37 => ⟨S16x8400x1, .f32⟩
  | 38 => ⟨S16x8400x1, .f32⟩
  | 39 => ⟨S16x8400x1, .f32⟩
  | 40 => ⟨S16x8400x1, .f32⟩
  | 41 => ⟨S16x8400x4, .f32⟩
  | 42 => ⟨S_, .f32⟩
  | 43 => ⟨S16x8400, .f32⟩
  | 44 => ⟨S16x8400, .i1⟩
  | 45 => ⟨S_, .f32⟩
  | 46 => ⟨S_, .f32⟩
  | 47 => ⟨S16x8400, .f32⟩
  | 48 => ⟨S16x8400, .f32⟩
  | 49 => ⟨S16x1024, .f32⟩
  | 50 => ⟨S16x1024, .i32⟩
  | 51 => ⟨S16x1024x1, .i32⟩
  | 52 => ⟨S_, .i32⟩
  | 53 => ⟨S16x1024x1, .i32⟩
  | 54 => ⟨S16x1024x1, .i1⟩
  | 55 => ⟨S_, .i32⟩
  | 56 => ⟨S16x1024x1, .i32⟩
  | 57 => ⟨S16x1024x1, .i32⟩
  | 58 => ⟨S16x1024x1, .i32⟩
  | 59 => ⟨S1, .i32⟩
  | 60 => ⟨S_, .i32⟩
  | 61 => ⟨S16x1024x1, .i32⟩
  | 62 => ⟨S16x1024x1, .i1⟩
  | 63 => ⟨S1x1x1, .i32⟩
  | 64 => ⟨S16x1024x1, .i32⟩
  | 65 => ⟨S16x1024x1, .i1⟩
  | 66 => ⟨S16x1024x1, .i1⟩
  | 67 => ⟨S_, .i1⟩
  | 68 => ⟨S16x1024, .i1⟩
  | 69 => ⟨S16x1024x4, .f32⟩
  | 70 => ⟨S16x1024x4, .i1⟩
  | 71 => ⟨S_, .f32⟩
  | 72 => ⟨S16x1024x4, .f32⟩
  | 73 => ⟨S16x1024x4, .f32⟩
  | 74 => ⟨S_, .i32⟩
  | 75 => ⟨S16x1024, .i32⟩
  | 76 => ⟨S16x1024, .i1⟩
  | 77 => ⟨S_, .i32⟩
  | 78 => ⟨S16x1024, .i32⟩
  | 79 => ⟨S16x1024, .i32⟩
  | 80 => ⟨S16x1024, .i32⟩
  | 81 => ⟨S16x1024x1, .i32⟩
  | 82 => ⟨S1, .i32⟩
  | 83 => ⟨S_, .i32⟩
  | 84 => ⟨S16x1024x1, .i32⟩
  | 85 => ⟨S16x1024x1, .i1⟩
  | 86 => ⟨S1x1x1, .i32⟩
  | 87 => ⟨S16x1024x1, .i32⟩
  | 88 => ⟨S16x1024x1, .i1⟩
  | 89 => ⟨S16x1024x1, .i1⟩
  | 90 => ⟨S_, .i1⟩
  | 91 => ⟨S16x1024, .i1⟩
  | 92 => ⟨S16x1024, .f32⟩
  | 93 => ⟨S_, .f32⟩
  | 94 => ⟨S16x1024, .f32⟩
  | 95 => ⟨S16x1024, .f32⟩
  | 96 => ⟨S_, .i32⟩
  | 97 => ⟨S16x1024, .i32⟩
  | 98 => ⟨S16x1024, .i1⟩
  | 99 => ⟨S_, .i32⟩
  | 100 => ⟨S16x1024, .i32⟩
  | 101 => ⟨S16x1024, .i32⟩
  | 102 => ⟨S16x1024, .i32⟩
  | 103 => ⟨S16x1024x1, .i32⟩
  | 104 => ⟨S1, .i32⟩
  | 105 => ⟨S_, .i32⟩
  | 106 => ⟨S16x1024x1, .i32⟩
  | 107 => ⟨S16x1024x1, .i1⟩
  | 108 => ⟨S1x1x1, .i32⟩
  | 109 => ⟨S16x1024x1, .i32⟩
  | 110 => ⟨S16x1024x1, .i1⟩
  | 111 => ⟨S16x1024x1, .i1⟩
  | 112 => ⟨S_, .i1⟩
  | 113 => ⟨S16x1024, .i1⟩
  | 114 => ⟨S16x1024, .i32⟩
  | 115 => ⟨S_, .i32⟩
  | 116 => ⟨S16x1024, .i32⟩
  | 117 => ⟨S16x1024, .i32⟩
  | 118 => ⟨S16x1024x1, .f32⟩
  | 119 => ⟨S16x1024, .f32⟩
  | 120 => ⟨S16x1024x1, .f32⟩
  | 121 => ⟨S16x1024, .f32⟩
  | 122 => ⟨S16x1024, .f32⟩
  | 123 => ⟨S16x1024x1, .f32⟩
  | 124 => ⟨S16x1024, .f32⟩
  | 125 => ⟨S16x1024x1, .f32⟩
  | 126 => ⟨S16x1024, .f32⟩
  | 127 => ⟨S16x1024, .f32⟩
  | _ => ⟨S16x84x8400, .f32⟩

abbrev hbmTy0_1 (i : Nat) : BufTy := match i % 128 with
  | 0 => ⟨S16x1024, .f32⟩
  | 1 => ⟨S16x1024x2, .f32⟩
  | 2 => ⟨S16x1024x1x2, .f32⟩
  | 3 => ⟨S16x1024x2, .f32⟩
  | 4 => ⟨S16x1x1024x2, .f32⟩
  | 5 => ⟨S16x1024x1024x2, .f32⟩
  | 6 => ⟨S16x1024x1024x2, .f32⟩
  | 7 => ⟨S16x1024x1024x2, .f32⟩
  | 8 => ⟨S16x1024x2, .f32⟩
  | 9 => ⟨S16x1024x1x2, .f32⟩
  | 10 => ⟨S16x1024x2, .f32⟩
  | 11 => ⟨S16x1x1024x2, .f32⟩
  | 12 => ⟨S16x1024x1024x2, .f32⟩
  | 13 => ⟨S16x1024x1024x2, .f32⟩
  | 14 => ⟨S16x1024x1024x2, .f32⟩
  | 15 => ⟨S16x1024x1024x2, .f32⟩
  | 16 => ⟨S_, .f32⟩
  | 17 => ⟨S_, .f32⟩
  | 18 => ⟨S16x1024x1024x2, .f32⟩
  | 19 => ⟨S16x1024x1024x2, .f32⟩
  | 20 => ⟨S16x1024x1024x1, .f32⟩
  | 21 => ⟨S16x1024x1024, .f32⟩
  | 22 => ⟨S16x1024x1024x1, .f32⟩
  | 23 => ⟨S16x1024x1024, .f32⟩
  | 24 => ⟨S16x1024x1024, .f32⟩
  | 25 => ⟨S16x1024x1, .f32⟩
  | 26 => ⟨S16x1x1024, .f32⟩
  | 27 => ⟨S16x1024x1024, .f32⟩
  | 28 => ⟨S16x1024x1024, .f32⟩
  | 29 => ⟨S16x1024x1024, .f32⟩
  | 30 => ⟨S16x1024x1024, .f32⟩
  | 31 => ⟨S_, .f32⟩
  | 32 => ⟨S16x1024x1024, .f32⟩
  | 33 => ⟨S16x1024x1024, .f32⟩
  | 34 => ⟨S16x1024x1024, .f32⟩
  | 35 => ⟨S1024, .i32⟩
  | 36 => ⟨S_, .i1⟩
  | 37 => ⟨S16x1024, .i1⟩
  | 38 => ⟨S_, .i32⟩
  | 39 => ⟨S_, .i32⟩
  | 40 => ⟨S16x1024x1024, .f32⟩
  | 41 => ⟨S1024, .i32⟩
  | 42 => ⟨S_, .i32⟩
  | 43 => ⟨S_, .i32⟩
  | 44 => ⟨S16x1024, .i1⟩
  | 45 => ⟨S_, .i32⟩
  | 46 => ⟨S_, .i1⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S16x1x1024, .f32⟩
  | 58 => ⟨S16x1024, .f32⟩
  | 59 => ⟨S_, .f32⟩
  | 60 => ⟨S16x1024, .f32⟩
  | 61 => ⟨S16x1024, .i1⟩
  | 62 => ⟨S_, .i32⟩
  | 63 => ⟨S1024, .i32⟩
  | 64 => ⟨S1024, .i1⟩
  | 65 => ⟨S1x1024, .i1⟩
  | 66 => ⟨S16x1024, .i1⟩
  | 67 => ⟨S16x1024, .i1⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S16x1, .i1⟩
  | 76 => ⟨S16x1024, .i1⟩
  | 77 => ⟨S16x1024, .i1⟩
  | 78 => ⟨S16x1024, .i1⟩
  | 79 => ⟨S16x1024, .i1⟩
  | 80 => ⟨S_, .i32⟩
  | 81 => ⟨S_, .i32⟩
  | 82 => ⟨S_, .f32⟩
  | 83 => ⟨S16x1024, .f32⟩
  | 84 => ⟨S16x1024, .i1⟩
  | 85 => ⟨S16x1024, .i1⟩
  | 86 => ⟨S_, .f32⟩
  | 87 => ⟨S_, .f32⟩
  | 88 => ⟨S_, .f32⟩
  | 89 => ⟨S_, .f32⟩
  | 90 => ⟨S1, .f32⟩
  | 91 => ⟨S1, .f32⟩
  | 92 => ⟨S1, .f32⟩
  | 93 => ⟨S1, .f32⟩
  | 94 => ⟨S4, .f32⟩
  | 95 => ⟨S1x1x4, .f32⟩
  | 96 => ⟨S16x1024x4, .f32⟩
  | 97 => ⟨S16x1024x4, .f32⟩
  | 98 => ⟨S16x1024x1, .i1⟩
  | 99 => ⟨S_, .f32⟩
  | 100 => ⟨S_, .f32⟩
  | 101 => ⟨S16x1024x4, .i1⟩
  | 102 => ⟨S16x1024x4, .f32⟩
  | 103 => ⟨S16x1024x4, .f32⟩
  | 104 => ⟨S_, .f32⟩
  | 105 => ⟨S_, .f32⟩
  | 106 => ⟨S16x1024, .f32⟩
  | 107 => ⟨S16x1024, .f32⟩
  | 108 => ⟨S_, .i32⟩
  | 109 => ⟨S_, .i32⟩
  | 110 => ⟨S16x1024, .i32⟩
  | 111 => ⟨S16x1024, .i32⟩
  | _ => ⟨S16x84x8400, .f32⟩

abbrev hbmTy (i : Nat) : BufTy := match i / 128 with
  | 0 => hbmTy0_0 i
  | 1 => hbmTy0_1 i
  | _ => ⟨S16x84x8400, .f32⟩

abbrev bufTy : (tb : Table) → Fin (tcTables nBuf tb) → BufTy
  | .hbm, ⟨i, _⟩ => hbmTy i
  | _, _ => ⟨S16x84x8400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v33 : Ref sig .tc := ⟨.hbm, 48, rfl⟩
abbrev main_values : Ref sig .tc := ⟨.hbm, 49, rfl⟩
abbrev main_indices : Ref sig .tc := ⟨.hbm, 50, rfl⟩
abbrev main_v34 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_c_2 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_c_3 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v35 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_cst : Ref sig .tc := ⟨.hbm, 93, rfl⟩
abbrev main_call3_v14 : Ref sig .tc := ⟨.hbm, 94, rfl⟩
abbrev main_v36 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_c_1 : Ref sig .tc := ⟨.hbm, 104, rfl⟩
abbrev main_call4_c_2 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_3 : Ref sig .tc := ⟨.hbm, 112, rfl⟩
abbrev main_call4_v12 : Ref sig .tc := ⟨.hbm, 113, rfl⟩
abbrev main_call4_v13 : Ref sig .tc := ⟨.hbm, 114, rfl⟩
abbrev main_call4_c_4 : Ref sig .tc := ⟨.hbm, 115, rfl⟩
abbrev main_call4_v14 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_6 : Ref sig .tc := ⟨.hbm, 144, rfl⟩
abbrev main_call5_v0 : Ref sig .tc := ⟨.hbm, 145, rfl⟩
abbrev main_call5_v1 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_cst_7 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_c : Ref sig .tc := ⟨.hbm, 164, rfl⟩
abbrev main_v80 : Ref sig .tc := ⟨.hbm, 165, rfl⟩
abbrev main_c_8 : Ref sig .tc := ⟨.hbm, 166, rfl⟩
abbrev main_c_9 : Ref sig .tc := ⟨.hbm, 167, rfl⟩
abbrev main_v81_0 : Ref sig .tc := ⟨.hbm, 168, rfl⟩
abbrev main_v81_1 : Ref sig .tc := ⟨.hbm, 169, rfl⟩
abbrev main_v81_2 : Ref sig .tc := ⟨.hbm, 170, rfl⟩
abbrev main_v81_3 : Ref sig .tc := ⟨.hbm, 171, rfl⟩
abbrev main_v81_4 : Ref sig .tc := ⟨.hbm, 172, rfl⟩
abbrev main_while0c_c_22 : Ref sig .tc := ⟨.hbm, 173, rfl⟩
abbrev main_while0c_v97 : Ref sig .tc := ⟨.hbm, 174, rfl⟩
abbrev main_while0b_c_22 : Ref sig .tc := ⟨.hbm, 175, rfl⟩
abbrev main_while0b_v97 : Ref sig .tc := ⟨.hbm, 176, rfl⟩
abbrev main_while0b_c_23 : Ref sig .tc := ⟨.hbm, 177, rfl⟩
abbrev main_while0b_v98 : Ref sig .tc := ⟨.hbm, 178, rfl⟩
abbrev main_while0b_v99 : Ref sig .tc := ⟨.hbm, 179, rfl⟩
abbrev main_while0b_c_24 : Ref sig .tc := ⟨.hbm, 180, rfl⟩
abbrev main_while0b_v100 : Ref sig .tc := ⟨.hbm, 181, rfl⟩
abbrev main_while0b_v101 : Ref sig .tc := ⟨.hbm, 182, rfl⟩
abbrev main_while0b_c_25 : Ref sig .tc := ⟨.hbm, 183, rfl⟩
abbrev main_while0b_c_26 : Ref sig .tc := ⟨.hbm, 184, rfl⟩
abbrev main_while0b_v102 : Ref sig .tc := ⟨.hbm, 185, rfl⟩
abbrev main_while0b_v103 : Ref sig .tc := ⟨.hbm, 186, rfl⟩
abbrev main_while0b_cst_27 : Ref sig .tc := ⟨.hbm, 187, rfl⟩
abbrev main_while0b_v104 : Ref sig .tc := ⟨.hbm, 188, rfl⟩
abbrev main_while0b_v105 : Ref sig .tc := ⟨.hbm, 189, rfl⟩
abbrev main_while0b_v106 : Ref sig .tc := ⟨.hbm, 190, rfl⟩
abbrev main_while0b_v107 : Ref sig .tc := ⟨.hbm, 191, rfl⟩
abbrev main_while0b_v108 : Ref sig .tc := ⟨.hbm, 192, rfl⟩
abbrev main_while0b_v109 : Ref sig .tc := ⟨.hbm, 193, rfl⟩
abbrev main_while0b_v110 : Ref sig .tc := ⟨.hbm, 194, rfl⟩
abbrev main_while0b_v111 : Ref sig .tc := ⟨.hbm, 195, rfl⟩
abbrev main_while0b_c_28 : Ref sig .tc := ⟨.hbm, 196, rfl⟩
abbrev main_while0b_v112 : Ref sig .tc := ⟨.hbm, 197, rfl⟩
abbrev main_while0b_v113 : Ref sig .tc := ⟨.hbm, 198, rfl⟩
abbrev main_while0b_c_29 : Ref sig .tc := ⟨.hbm, 199, rfl⟩
abbrev main_while0b_v114 : Ref sig .tc := ⟨.hbm, 200, rfl⟩
abbrev main_while0b_v115 : Ref sig .tc := ⟨.hbm, 201, rfl⟩
abbrev main_while0b_c_30 : Ref sig .tc := ⟨.hbm, 202, rfl⟩
abbrev main_while0b_v116 : Ref sig .tc := ⟨.hbm, 203, rfl⟩
abbrev main_while0b_v117 : Ref sig .tc := ⟨.hbm, 204, rfl⟩
abbrev main_while0b_v118 : Ref sig .tc := ⟨.hbm, 205, rfl⟩
abbrev main_while0b_call6_v0 : Ref sig .tc := ⟨.hbm, 206, rfl⟩
abbrev main_while0b_v119 : Ref sig .tc := ⟨.hbm, 207, rfl⟩
abbrev main_while0b_c_31 : Ref sig .tc := ⟨.hbm, 208, rfl⟩
abbrev main_while0b_v120 : Ref sig .tc := ⟨.hbm, 209, rfl⟩
abbrev main_cst_10 : Ref sig .tc := ⟨.hbm, 210, rfl⟩
abbrev main_v82 : Ref sig .tc := ⟨.hbm, 211, rfl⟩
abbrev main_v83 : Ref sig .tc := ⟨.hbm, 212, rfl⟩
abbrev main_v84 : Ref sig .tc := ⟨.hbm, 213, rfl⟩
abbrev main_cst_11 : Ref sig .tc := ⟨.hbm, 214, rfl⟩
abbrev main_cst_12 : Ref sig .tc := ⟨.hbm, 215, rfl⟩
abbrev main_cst_13 : Ref sig .tc := ⟨.hbm, 216, rfl⟩
abbrev main_cst_14 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_v88 : Ref sig .tc := ⟨.hbm, 221, rfl⟩
abbrev main_v89 : Ref sig .tc := ⟨.hbm, 222, rfl⟩
abbrev main_v90 : Ref sig .tc := ⟨.hbm, 223, rfl⟩
abbrev main_v91 : Ref sig .tc := ⟨.hbm, 224, rfl⟩
abbrev main_v92 : Ref sig .tc := ⟨.hbm, 225, rfl⟩
abbrev main_v93 : Ref sig .tc := ⟨.hbm, 226, rfl⟩
abbrev main_cst_15 : Ref sig .tc := ⟨.hbm, 227, rfl⟩
abbrev main_call7_v0 : Ref sig .tc := ⟨.hbm, 228, rfl⟩
abbrev main_call7_v1 : Ref sig .tc := ⟨.hbm, 229, rfl⟩
abbrev main_call7_v2 : Ref sig .tc := ⟨.hbm, 230, rfl⟩
abbrev main_v94 : Ref sig .tc := ⟨.hbm, 231, rfl⟩
abbrev main_cst_16 : Ref sig .tc := ⟨.hbm, 232, rfl⟩
abbrev main_call8_v0 : Ref sig .tc := ⟨.hbm, 233, rfl⟩
abbrev main_call8_v1 : Ref sig .tc := ⟨.hbm, 234, rfl⟩
abbrev main_v95 : Ref sig .tc := ⟨.hbm, 235, rfl⟩
abbrev main_c_17 : Ref sig .tc := ⟨.hbm, 236, rfl⟩
abbrev main_call9_v0 : Ref sig .tc := ⟨.hbm, 237, rfl⟩
abbrev main_call9_v1 : Ref sig .tc := ⟨.hbm, 238, rfl⟩
abbrev main_v96 : Ref sig .tc := ⟨.hbm, 239, rfl⟩

abbrev nD : Nat := 1
abbrev τ : Topo := Topo.v7x

variable {F : FTy → Type} [FloatOps F]

abbrev main_while0_count : Scf.Loop 32 := ⟨0#32, 1024#32, 1#32⟩
-- ==== Proof.Ref.lean ====
/- The reference program: what its buffers hold, and its arguments unchanged. -/
module

public import proofs.«01_k».proof.Proof.Gen.ReferenceIdeal.Run

@[expose] public section

set_option maxRecDepth 16384

noncomputable section

namespace Cert.ReferenceIdeal.Hand

open Cert.ReferenceIdeal.Gen Cert.ReferenceIdeal.Value
open Idealize.ShloMosaic Idealize.ShloMosaic.StableHlo Idealize.ShloMosaic.TcCoe
open Idealize.SL.Sem

variable {F : FTy → Type} [FloatOps F]
variable (m : (ℓ : Loc nD τ sig) → Buf (Elt F) ℓ) (ρ : Dev nD → PrngReg)

/-- A reference that neither the loop's condition nor its body writes holds at every trip what it held at the entry. -/
theorem atK_keep (c : Dev nD) (r : Ref sig .tc) (h0 : r ∉ condOps_W) (h1 : r ∉ while0Ops0_W) (h2 : r ∉ while0Ops0_1_W)
    (h3 : r ∉ while0Ops0_2_W) : ∀ k, atK m k c (Proc.devRef .tc r) = entryContents preI m c (Proc.devRef .tc r)
  | 0 => rfl
  | k + 1 => by
    have ih := atK_keep c r h0 h1 h2 h3 k
    show afterL bodyI (after condOps (atK m k c)) _ = _
    rw [show afterL bodyI (after condOps (atK m k c)) = after while0Ops0_2 (after while0Ops0_1 (after while0Ops0 (after condOps (atK m k c)))) from rfl]
    rw [after_of_writes_sub _ _ while0Ops0_2_writes h3,
      after_of_writes_sub _ _ while0Ops0_1_writes h2,
      after_of_writes_sub _ _ while0Ops0_writes h1,
      after_of_writes_sub _ _ condOps_writes h0]
    exact ih

theorem final_arg0 (c : Dev nD) : finalContents condOps preI bodyI postI 1024 m c (Proc.devRef .tc main_arg0) = m ((c.tc : Thread nD τ).loc main_arg0) := by
  have hk := atK_keep m c main_arg0 (by decide) (by decide) (by decide) (by decide) 1024
  simp only [finalContents, postI, afterL_cons, afterL_nil]
  after_reads_simp
  refine hk.trans ?_
  simp only [entryContents, preI, afterL_cons, afterL_nil]
  after_reads_simp
  try rfl

theorem final_arg1 (c : Dev nD) : finalContents condOps preI bodyI postI 1024 m c (Proc.devRef .tc main_arg1) = m ((c.tc : Thread nD τ).loc main_arg1) := by
  have hk := atK_keep m c main_arg1 (by decide) (by decide) (by decide) (by decide) 1024
  simp only [finalContents, postI, afterL_cons, afterL_nil]
  after_reads_simp
  refine hk.trans ?_
  simp only [entryContents, preI, afterL_cons, afterL_nil]
  after_reads_simp
  try rfl

/-- The reference runs, its arguments end unchanged and every counter ends at zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h c main_arg0 (by decide)).trans (final_arg0 m c), (h c main_arg1 (by decide)).trans (final_arg1 m c)⟩,
    sem_eq_zero_of_no_sems (by decide) r.2⟩) (run_fold m ρ)

end Cert.ReferenceIdeal.Hand

end
-- ==== Proof.KI.While.lean ====
/- The while loop of the second call: what one sweep does to the carried values, what the loop leaves as a
   function of the adjacency scratch, and the triple of a call of its label. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop's carried values: the keep rows, the change flag, the sweep count. -/
abbrev LoopSt (F : FTy → Type) : Type := FVec F S8x1024 .bf16 × BitVec 32 × BitVec 32

/-- Whether the loop goes on: the last sweep changed something and the count is below the bound. -/
def goesOn (s : LoopSt F) : Bool :=
  Scalar.andi (Scalar.cmpi .sgt s.2.1 0#32) (Scalar.cmpi .slt s.2.2 1026#32) = 1#1

/-- One sweep of the loop against the adjacency `adj`. -/
def sweep (adj : Vec F S1024x1024 .bf16) (s : LoopSt F) : LoopSt F :=
  (k1_pay5 s.1 adj, Scalar.extui (Scalar.cmpf .ogt (k1_pay4 s.1 adj) (Scalar.ofBits .f32 0x00000000#32)),
    Scalar.addi s.2.2 1#32)

/-- The loop with at most `n` sweeps left. -/
def loopN (adj : Vec F S1024x1024 .bf16) : ℕ → LoopSt F → LoopSt F
  | 0, s => s
  | n + 1, s => if goesOn s then loopN adj n (sweep adj s) else s

theorem goesOn_false_of_full (s : LoopSt F) (h : s.2.2 = 1026#32) : goesOn s = false := by
  unfold goesOn; rw [h]
  rw [show Scalar.cmpi .slt (1026#32) 1026#32 = 0#1 from by decide]
  rcases (by decide +kernel : ∀ b : BitVec 1, Scalar.andi b 0#1 = 0#1) (Scalar.cmpi .sgt s.2.1 0#32) with h
  rw [h]; decide

/-- The state from which the loop starts: every row at one. -/
def loopInit : LoopSt F := (k1_pay625 (F := F), 1#32, 0#32)

/-- What the loop leaves. -/
def loopEnd (adj : Vec F S1024x1024 .bf16) : LoopSt F := loopN adj 1026 loopInit

/-- The load of the whole adjacency scratch. -/
abbrev rAdj : Rect S1024x1024 := Rect.unit (s := S1024x1024) ![0, 0] S1024x1024.size inb_S1024x1024_S1024x1024_0_0

/-- The call's specification: holding the adjacency scratch, it gives it back with the loop's result. -/
def loopSpec (c : Dev nD) (arg7 : Memref sig .tc .vmem S1024x1024 .bf16) (f : Buf (Elt F) (arg7.view.loc (c : Thread nD τ)))
    (n : ℕ) (s : LoopSt F) : sWPT 𝕄 (LoopSt F) := do
  sWPT.consume (arg7.view.loc (c : Thread nD τ) ↦[arg7.view.set]{fullShare} f)
  sWPT.produce (arg7.view.loc (c : Thread nD τ) ↦[arg7.view.set]{fullShare} f)
  pure (loopN (arg7.view.readAt (Elt F) rAdj.toLoadRect f) n s)

theorem loopSpec_apply (c : Dev nD) (arg7 : Memref sig .tc .vmem S1024x1024 .bf16) (f : Buf (Elt F) (arg7.view.loc (c : Thread nD τ)))
    (n : ℕ) (s : LoopSt F) (K : LoopSt F → sProp 𝕄) :
    loopSpec c arg7 f n s K = iprop((arg7.view.loc (c : Thread nD τ) ↦[arg7.view.set]{fullShare} f)
    ∗ ((arg7.view.loc (c : Thread nD τ) ↦[arg7.view.set]{fullShare} f) -∗ K (loopN (arg7.view.readAt (Elt F) rAdj.toLoadRect f) n s))) := rfl

theorem loopSpec_le (c : Dev nD) (E : Set ℕ) (i : grid1.Coords) (arg7 : Memref sig .tc .vmem S1024x1024 .bf16) (harg7 : arg7.IsWhole)
    (f : Buf (Elt F) (arg7.view.loc (c : Thread nD τ))) :
    ∀ n (s : LoopSt F), s.2.2 = BitVec.ofNat 32 (1026 - n) → n ≤ 1026 → ∀ K, loopSpec c arg7 f n s K
      ⊢ wp frame (wpE (defs₀ (F := F)) Variants.nat (c : Thread nD τ) (some n)) E
          (defs₀ (F := F) .tc (2 : (Λ₀ F).Label) ⟨i, arg7, harg7, s.1, s.2.1, s.2.2⟩) K := by
  intro n
  induction n with
  | zero =>
    intro s hs _ K
    have hg := goesOn_false_of_full s hs
    show _ ⊢ wp frame (wpE (defs₀ (F := F)) Variants.nat (c : Thread nD τ) (some 0)) E (cc1_while1 i arg7 harg7 s.1 s.2.1 s.2.2) K
    rw [cc1_while1_eq_skeleton]; unfold cc1_while1_skel; rw [loopSpec_apply]
    unfold goesOn at hg
    have hg' : ¬ Scalar.andi (Scalar.cmpi .sgt s.2.1 0#32) (Scalar.cmpi .slt s.2.2 1026#32) = 1#1 := of_decide_eq_false hg
    simp only [hg', ↓reduceIte, Prog.pure_eq_ret]
    iintro ⟨H, Hk⟩
    rw [wp_ret]; imodintro
    simp only [loopN]
    iapply Hk; iexact H
  | succ n ih =>
    intro s hs hn K
    show _ ⊢ wp frame (wpE (defs₀ (F := F)) Variants.nat (c : Thread nD τ) (some (n + 1))) E (cc1_while1 i arg7 harg7 s.1 s.2.1 s.2.2) K
    rw [cc1_while1_eq_skeleton]; unfold cc1_while1_skel
    by_cases hg : Scalar.andi (Scalar.cmpi .sgt s.2.1 0#32) (Scalar.cmpi .slt s.2.2 1026#32) = 1#1
    · have hg' : goesOn s = true := decide_eq_true hg
      rw [loopSpec_apply]
      simp only [hg, ↓reduceIte, Prog.lift, Prog.bind_op, Prog.bind_ret, Prog.pure_eq_ret, loopN, hg']
      iintro ⟨H, Hk⟩
      iapply (wp_load Variants.nat (c : Thread nD τ) (some (n + 1)) E (m := arg7) (r := rAdj.toLoadRect) (View.setOn_subset_set _ _)) $$ H; iintro H
      have hs' : (sweep (arg7.view.readAt (Elt F) rAdj.toLoadRect f) s).2.2 = BitVec.ofNat 32 (1026 - n) := by
        show s.2.2 + 1#32 = _
        rw [hs, show 1026 - n = (1026 - (n + 1)) + 1 by omega, BitVec.ofNat_add]
      iapply (wp_call_spec Variants.nat (c : Thread nD τ) (some (n + 1)) E (loopSpec c arg7 f n (sweep (arg7.view.readAt (Elt F) rAdj.toLoadRect f) s)) n
        (fun u hu => by cases hu; exact Nat.lt_succ_self n) (ih (sweep (arg7.view.readAt (Elt F) rAdj.toLoadRect f) s) hs' (Nat.le_of_succ_le hn)))
      rw [loopSpec_apply]
      isplitl [H]; · iexact H
      iintro H
      rw [wp_ret]; imodintro
      iapply Hk; iexact H
    · have hg' : goesOn s = false := decide_eq_false hg
      rw [loopSpec_apply]
      simp only [hg, ↓reduceIte, Prog.pure_eq_ret, loopN, hg', Bool.false_eq_true]
      iintro ⟨H, Hk⟩
      rw [wp_ret]; imodintro
      iapply Hk; iexact H

/-- The call of the loop at the head of a program: the adjacency scratch holding covering writes `L`, the program goes
    on at the loop's result against what they leave. -/
theorem loop_call (c : Dev nD) (E : Set ℕ) (i : grid1.Coords) (arg7 : Memref sig .tc .vmem S1024x1024 .bf16) (harg7 : arg7.IsWhole)
    {α : Type} {k : LoopSt F → Prog (TpuEff nD τ sig (Elt F) (Λ₀ F) .tc) α} {Q : α → sProp 𝕄}
    {f : Buf (Elt F) (arg7.view.loc (c : Thread nD τ))} {L : List (View.Piece (Elt F) S1024x1024 .bf16)}
    (hcov : ∀ y, ∃ p ∈ L, y ∈ p.1.set) :
    (arg7.view.loc (c : Thread nD τ) ↦[arg7.view.set]{fullShare} arg7.view.writes (Elt F) f L)
      ⊢ iprop(((arg7.view.loc (c : Thread nD τ) ↦[arg7.view.set]{fullShare} arg7.view.writes (Elt F) f L)
            -∗ wp frame (wpE (defs₀ (F := F)) Variants.nat c none) E (k ((loopEnd (View.canon L)).1, (loopEnd (View.canon L)).2.1, (loopEnd (View.canon L)).2.2)) Q)
          -∗ wp frame (wpE (defs₀ (F := F)) Variants.nat c none) E
              (.op (.call (2 : (Λ₀ F).Label) ⟨i, arg7, harg7, k1_pay625 (F := F), 1#32, 0#32⟩) k) Q) := by
  have hread : arg7.view.readAt (Elt F) rAdj.toLoadRect (arg7.view.writes (Elt F) f L) = View.canon L := by
    rw [← View.read_writes_eq_canon arg7.view f L hcov]
    funext y
    exact congrArg (arg7.view.read (Elt F) (arg7.view.writes (Elt F) f L)) (funext fun a => Fin.ext (by
      fin_cases a <;> simp [LoadRect.idx, Rect.toLoadRect, Rect.unit]))
  have hS : loopSpec c arg7 (arg7.view.writes (Elt F) f L) 1026 loopInit
      ≤ wp frame (wpE (defs₀ (F := F)) Variants.nat (c : Thread nD τ) (some 1026)) E
          (defs₀ (F := F) .tc (2 : (Λ₀ F).Label) ⟨i, arg7, harg7, k1_pay625 (F := F), 1#32, 0#32⟩) := by
    intro K
    have h := loopSpec_le c E i arg7 harg7 (arg7.view.writes (Elt F) f L) 1026 loopInit (by simp [loopInit]) le_rfl K
    unfold loopInit at h ⊢
    dsimp only at h
    exact h
  iintro H Hk
  iapply (wp_call_spec Variants.nat (c : Thread nD τ) none E (loopSpec c arg7 (arg7.view.writes (Elt F) f L) 1026 loopInit) 1026
    (fun u hu => nomatch hu) hS)
  rw [loopSpec_apply, hread]
  isplitl [H]; · iexact H
  iexact Hk

end Cert.KernelIdeal.Hand

end
-- ==== Proof.KI.Body0.lean ====
/- The first call (packing): its windows, what its body leaves, the body run, its proof data and obligation. -/
module

public import proofs.«01_k».proof.Proof.KI.While

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # REGION 0 of @main: custom_call 0, `cc0_yolo_pack` (pipeline 0), at the entry contents `V` -/

/-! ## The windows' blocks -/

/-- Window `w`'s block at point `t`, read off its array as the region finds it (`V`). -/
def iblk0 (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V c (Pipeline.arrRef spec0 0))
    (hafter : ∀ t, dat.after 0 t = iblk0 V c 0 t) (t : Fin (cfg0 (F := F)).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x84x8400 := Rect.unit (s := S1x84x8400) ![0, 0, 0] S1x4x128.size inb_S1x84x8400_S1x4x128_0_0_0
abbrev r0_1 : Rect S1x84x8400 := Rect.unit (s := S1x84x8400) ![0, 4, 0] S1x80x128.size inb_S1x84x8400_S1x80x128_0_4_0
abbrev r0_2 : Rect S1x66x8x128 := Rect.unit (s := S1x66x8x128) ![0, 0, 0, 0] S1x1x8x128.size inb_S1x66x8x128_S1x1x8x128_0_0_0_0
abbrev r0_3 : Rect S1x84x8400 := Rect.unit (s := S1x84x8400) ![0, 0, 128] S1x4x128.size inb_S1x84x8400_S1x4x128_0_0_128
abbrev r0_4 : Rect S1x84x8400 := Rect.unit (s := S1x84x8400) ![0, 4, 128] S1x80x128.size inb_S1x84x8400_S1x80x128_0_4_128
abbrev r0_5 : Rect S1x66x8x128 := Rect.unit (s := S1x66x8x128) ![0, 1, 0, 0] S1x1x8x128.size inb_S1x66x8x128_S1x1x8x128_0_1_0_0
abbrev r0_6 : Rect S1x84x8400 := Rect.unit (s := S1x84x8400) ![0, 0, 256] S1x4x128.size inb_S1x84x8400_S1x4x128_0_0_256
abbrev r0_7 : Rect S1x84x8400 := Rect.unit (s := S1x84x8400) ![0, 4, 256] S1x80x128.size inb_S1x84x8400_S1x80x128_0_4_256
abbrev r0_8 : Rect S1x66x8x128 := Rect.unit (s := S1x66x8x128) ![0, 2, 0, 0] S1x1x8x128.size inb_S1x66x8x128_S1x1x8x128_0_2_0_0
abbrev r0_9 : Rect S1x84x8400 := Rect.unit (s := S1x84x8400) ![0, 0, 384] S1x4x128.size inb_S1x84x8400_S1x4x128_0_0_384
abbrev r0_10 : Rect S1x84x8400 := Rect.unit (s := S1x84x8400) ![0, 4, 384] S1x80x128.size inb_S1x84x8400_S1x80x128_0_4_384
abbrev r0_11 : Rect S1x66x8x128 := Rect.unit (s := S1x66x8x128) ![0, 3, 0, 0] S1x1x8x128.size inb_S1x66x8x128_S1x1x8x128_0_3_0_0
abbrev r0_12 : Rect S1x84x8400 := Rect.unit (s := S1x84x8400) ![0, 0, 512] S1x4x128.size inb_S1x84x8400_S1x4x128_0_0_512
abbrev r0_13 : Rect S1x84x8400 := Rect.unit (s := S1x84x8400) ![0, 4, 512] S1x80x128.size inb_S1x84x8400_S1x80x128_0_4_512
abbrev r0_14 : Rect S1x66x8x128 := Rect.unit (s := S1x66x8x128) ![0, 4, 0, 0] S1x1x8x128.size inb_S1x66x8x128_S1x1x8x128_0_4_0_0
abbrev r0_15 : Rect S1x84x8400 := Rect.unit (s := S1x84x8400) ![0, 0, 640] S1x4x128.size inb_S1x84x8400_S1x4x128_0_0_640
abbrev r0_16 : Rect S1x84x8400 := Rect.unit (s := S1x84x8400) ![0, 4, 640] S1x80x128.size inb_S1x84x8400_S1x80x128_0_4_640
abbrev r0_17 : Rect S1x66x8x128 := Rect.unit (s := S1x66x8x128) ![0, 5, 0, 0] S1x1x8x128.size inb_S1x66x8x128_S1x1x8x128_0_5_0_0
abbrev r0_18 : Rect S1x84x8400 := Rect.unit (s := S1x84x8400) ![0, 0, 768] S1x4x128.size inb_S1x84x8400_S1x4x128_0_0_768
abbrev r0_19 : Rect S1x84x8400 := Rect.unit (s := S1x84x8400) ![0, 4, 768] S1x80x128.size inb_S1x84x8400_S1x80x128_0_4_768
abbrev r0_20 : Rect S1x66x8x128 := Rect.unit (s := S1x66x8x128) ![0, 6, 0, 0] S1x1x8x128.size inb_S1x66x8x128_S1x1x8x128_0_6_0_0
abbrev r0_21 : Rect S1x84x8400 := Rect.unit (s := S1x84x8400) ![0, 0, 896] S1x4x128.size inb_S1x84x8400_S1x4x128_0_0_896
abbrev r0_22 : Rect S1x84x8400 := Rect.unit (s := S1x84x8400) ![0, 4, 896] S1x80x128.size inb_S1x84x8400_S1x80x128_0_4_896
abbrev r0_23 : Rect S1x66x8x128 := Rect.unit (s := S1x66x8x128) ![0, 7, 0, 0] S1x1x8x128.size inb_S1x66x8x128_S1x1x8x128_0_7_0_0
abbrev r0_24 : Rect S1x84x8400 := Rect.unit (s := S1x84x8400) ![0, 0, 1024] S1x4x128.size inb_S1x84x8400_S1x4x128_0_0_1024
abbrev r0_25 : Rect S1x84x8400 := Rect.unit (s := S1x84x8400) ![0, 4, 1024] S1x80x128.size inb_S1x84x8400_S1x80x128_0_4_1024
abbrev r0_26 : Rect S1x66x8x128 := Rect.unit (s := S1x66x8x128) ![0, 8, 0, 0] S1x1x8x128.size inb_S1x66x8x128_S1x1x8x128_0_8_0_0
abbrev r0_27 : Rect S1x84x8400 := Rect.unit (s := S1x84x8400) ![0, 0, 1152] S1x4x128.size inb_S1x84x8400_S1x4x128_0_0_1152
abbrev r0_28 : Rect S1x84x8400 := Rect.unit (s := S1x84x8400) ![0, 4, 1152] S1x80x128.size inb_S1x84x8400_S1x80x128_0_4_1152
abbrev r0_29 : Rect S1x66x8x128 := Rect.unit (s := S1x66x8x128) ![0, 9, 0, 0] S1x1x8x128.size inb_S1x66x8x128_S1x1x8x128_0_9_0_0
abbrev r0_30 : Rect S1x84x8400 := Rect.unit (s := S1x84x8400) ![0, 0, 1280] S1x4x128.size inb_S1x84x8400_S1x4x128_0_0_1280
abbrev r0_31 : Rect S1x84x8400 := Rect.unit (s := S1x84x8400) ![0, 4, 1280] S1x80x128.size inb_S1x84x8400_S1x80x128_0_4_1280
abbrev r0_32 : Rect S1x66x8x128 := Rect.unit (s := S1x66x8x128) ![0, 10, 0, 0] S1x1x8x128.size inb_S1x66x8x128_S1x1x8x128_0_10_0_0
abbrev r0_33 : Rect S1x84x8400 := Rect.unit (s := S1x84x8400) ![0, 0, 1408] S1x4x128.size inb_S1x84x8400_S1x4x128_0_0_1408
abbrev r0_34 : Rect S1x84x8400 := Rect.unit (s := S1x84x8400) ![0, 4, 1408] S1x80x128.size inb_S1x84x8400_S1x80x128_0_4_1408
abbrev r0_35 : Rect S1x66x8x128 := Rect.unit (s := S1x66x8x128) ![0, 11, 0, 0] S1x1x8x128.size inb_S1x66x8x128_S1x1x8x128_0_11_0_0
abbrev r0_36 : Rect S1x84x8400 := Rect.unit (s := S1x84x8400) ![0, 0, 1536] S1x4x128.size inb_S1x84x8400_S1x4x128_0_0_1536
abbrev r0_37 : Rect S1x84x8400 := Rect.unit (s := S1x84x8400) ![0, 4, 1536] S1x80x128.size inb_S1x84x8400_S1x80x128_0_4_1536
abbrev r0_38 : Rect S1x66x8x128 := Rect.unit (s := S1x66x8x128) ![0, 12, 0, 0] S1x1x8x128.size inb_S1x66x8x128_S1x1x8x128_0_12_0_0
abbrev r0_39 : Rect S1x84x8400 := Rect.unit (s := S1x84x8400) ![0, 0, 1664] S1x4x128.size inb_S1x84x8400_S1x4x128_0_0_1664
abbrev r0_40 : Rect S1x84x8400 := Rect.unit (s := S1x84x8400) ![0, 4, 1664] S1x80x128.size inb_S1x84x8400_S1x80x128_0_4_1664
abbrev r0_41 : Rect S1x66x8x128 := Rect.unit (s := S1x66x8x128) ![0, 13, 0, 0] S1x1x8x128.size inb_S1x66x8x128_S1x1x8x128_0_13_0_0
abbrev r0_42 : Rect S1x84x8400 := Rect.unit (s := S1x84x8400) ![0, 0, 1792] S1x4x128.size inb_S1x84x8400_S1x4x128_0_0_1792
abbrev r0_43 : Rect S1x84x8400 := Rect.unit (s := S1x84x8400) ![0, 4, 1792] S1x80x128.size inb_S1x84x8400_S1x80x128_0_4_1792
abbrev r0_44 : Rect S1x66x8x128 := Rect.unit (s := S1x66x8x128) ![0, 14, 0, 0] S1x1x8x128.size inb_S1x66x8x128_S1x1x8x128_0_14_0_0
abbrev r0_45 : Rect S1x84x8400 := Rect.unit (s := S1x84x8400) ![0, 0, 1920] S1x4x128.size inb_S1x84x8400_S1x4x128_0_0_1920
abbrev r0_46 : Rect S1x84x8400 := Rect.unit (s := S1x84x8400) ![0, 4, 1920] S1x80x128.size inb_S1x84x8400_S1x80x128_0_4_1920
abbrev r0_47 : Rect S1x66x8x128 := Rect.unit (s := S1x66x8x128) ![0, 15, 0, 0] S1x1x8x128.size inb_S1x66x8x128_S1x1x8x128_0_15_0_0
abbrev r0_48 : Rect S1x84x8400 := Rect.unit (s := S1x84x8400) ![0, 0, 2048] S1x4x128.size inb_S1x84x8400_S1x4x128_0_0_2048
abbrev r0_49 : Rect S1x84x8400 := Rect.unit (s := S1x84x8400) ![0, 4, 2048] S1x80x128.size inb_S1x84x8400_S1x80x128_0_4_2048
abbrev r0_50 : Rect S1x66x8x128 := Rect.unit (s := S1x66x8x128) ![0, 16, 0, 0] S1x1x8x128.size inb_S1x66x8x128_S1x1x8x128_0_16_0_0
abbrev r0_51 : Rect S1x84x8400 := Rect.unit (s := S1x84x8400) ![0, 0, 2176] S1x4x128.size inb_S1x84x8400_S1x4x128_0_0_2176
abbrev r0_52 : Rect S1x84x8400 := Rect.unit (s := S1x84x8400) ![0, 4, 2176] S1x80x128.size inb_S1x84x8400_S1x80x128_0_4_2176
abbrev r0_53 : Rect S1x66x8x128 := Rect.unit (s := S1x66x8x128) ![0, 17, 0, 0] S1x1x8x128.size inb_S1x66x8x128_S1x1x8x128_0_17_0_0
abbrev r0_54 : Rect S1x84x8400 := Rect.unit (s := S1x84x8400) ![0, 0, 2304] S1x4x128.size inb_S1x84x8400_S1x4x128_0_0_2304
abbrev r0_55 : Rect S1x84x8400 := Rect.unit (s := S1x84x8400) ![0, 4, 2304] S1x80x128.size inb_S1x84x8400_S1x80x128_0_4_2304
abbrev r0_56 : Rect S1x66x8x128 := Rect.unit (s := S1x66x8x128) ![0, 18, 0, 0] S1x1x8x128.size inb_S1x66x8x128_S1x1x8x128_0_18_0_0
abbrev r0_57 : Rect S1x84x8400 := Rect.unit (s := S1x84x8400) ![0, 0, 2432] S1x4x128.size inb_S1x84x8400_S1x4x128_0_0_2432
abbrev r0_58 : Rect S1x84x8400 := Rect.unit (s := S1x84x8400) ![0, 4, 2432] S1x80x128.size inb_S1x84x8400_S1x80x128_0_4_2432
abbrev r0_59 : Rect S1x66x8x128 := Rect.unit (s := S1x66x8x128) ![0, 19, 0, 0] S1x1x8x128.size inb_S1x66x8x128_S1x1x8x128_0_19_0_0
abbrev r0_60 : Rect S1x84x8400 := Rect.unit (s := S1x84x8400) ![0, 0, 2560] S1x4x128.size inb_S1x84x8400_S1x4x128_0_0_2560
abbrev r0_61 : Rect S1x84x8400 := Rect.unit (s := S1x84x8400) ![0, 4, 2560] S1x80x128.size inb_S1x84x8400_S1x80x128_0_4_2560
abbrev r0_62 : Rect S1x66x8x128 := Rect.unit (s := S1x66x8x128) ![0, 20, 0, 0] S1x1x8x128.size inb_S1x66x8x128_S1x1x8x128_0_20_0_0
abbrev r0_63 : Rect S1x84x8400 := Rect.unit (s := S1x84x8400) ![0, 0, 2688] S1x4x128.size inb_S1x84x8400_S1x4x128_0_0_2688
abbrev r0_64 : Rect S1x84x8400 := Rect.unit (s := S1x84x8400) ![0, 4, 2688] S1x80x128.size inb_S1x84x8400_S1x80x128_0_4_2688
abbrev r0_65 : Rect S1x66x8x128 := Rect.unit (s := S1x66x8x128) ![0, 21, 0, 0] S1x1x8x128.size inb_S1x66x8x128_S1x1x8x128_0_21_0_0
abbrev r0_66 : Rect S1x84x8400 := Rect.unit (s := S1x84x8400) ![0, 0, 2816] S1x4x128.size inb_S1x84x8400_S1x4x128_0_0_2816
abbrev r0_67 : Rect S1x84x8400 := Rect.unit (s := S1x84x8400) ![0, 4, 2816] S1x80x128.size inb_S1x84x8400_S1x80x128_0_4_2816
abbrev r0_68 : Rect S1x66x8x128 := Rect.unit (s := S1x66x8x128) ![0, 22, 0, 0] S1x1x8x128.size inb_S1x66x8x128_S1x1x8x128_0_22_0_0
abbrev r0_69 : Rect S1x84x8400 := Rect.unit (s := S1x84x8400) ![0, 0, 2944] S1x4x128.size inb_S1x84x8400_S1x4x128_0_0_2944
abbrev r0_70 : Rect S1x84x8400 := Rect.unit (s := S1x84x8400) ![0, 4, 2944] S1x80x128.size inb_S1x84x8400_S1x80x128_0_4_2944
abbrev r0_71 : Rect S1x66x8x128 := Rect.unit (s := S1x66x8x128) ![0, 23, 0, 0] S1x1x8x128.size inb_S1x66x8x128_S1x1x8x128_0_23_0_0
abbrev r0_72 : Rect S1x84x8400 := Rect.unit (s := S1x84x8400) ![0, 0, 3072] S1x4x128.size inb_S1x84x8400_S1x4x128_0_0_3072
abbrev r0_73 : Rect S1x84x8400 := Rect.unit (s := S1x84x8400) ![0, 4, 3072] S1x80x128.size inb_S1x84x8400_S1x80x128_0_4_3072
abbrev r0_74 : Rect S1x66x8x128 := Rect.unit (s := S1x66x8x128) ![0, 24, 0, 0] S1x1x8x128.size inb_S1x66x8x128_S1x1x8x128_0_24_0_0
abbrev r0_75 : Rect S1x84x8400 := Rect.unit (s := S1x84x8400) ![0, 0, 3200] S1x4x128.size inb_S1x84x8400_S1x4x128_0_0_3200
abbrev r0_76 : Rect S1x84x8400 := Rect.unit (s := S1x84x8400) ![0, 4, 3200] S1x80x128.size inb_S1x84x8400_S1x80x128_0_4_3200
abbrev r0_77 : Rect S1x66x8x128 := Rect.unit (s := S1x66x8x128) ![0, 25, 0, 0] S1x1x8x128.size inb_S1x66x8x128_S1x1x8x128_0_25_0_0
abbrev r0_78 : Rect S1x84x8400 := Rect.unit (s := S1x84x8400) ![0, 0, 3328] S1x4x128.size inb_S1x84x8400_S1x4x128_0_0_3328
abbrev r0_79 : Rect S1x84x8400 := Rect.unit (s := S1x84x8400) ![0, 4, 3328] S1x80x128.size inb_S1x84x8400_S1x80x128_0_4_3328
abbrev r0_80 : Rect S1x66x8x128 := Rect.unit (s := S1x66x8x128) ![0, 26, 0, 0] S1x1x8x128.size inb_S1x66x8x128_S1x1x8x128_0_26_0_0
abbrev r0_81 : Rect S1x84x8400 := Rect.unit (s := S1x84x8400) ![0, 0, 3456] S1x4x128.size inb_S1x84x8400_S1x4x128_0_0_3456
abbrev r0_82 : Rect S1x84x8400 := Rect.unit (s := S1x84x8400) ![0, 4, 3456] S1x80x128.size inb_S1x84x8400_S1x80x128_0_4_3456
abbrev r0_83 : Rect S1x66x8x128 := Rect.unit (s := S1x66x8x128) ![0, 27, 0, 0] S1x1x8x128.size inb_S1x66x8x128_S1x1x8x128_0_27_0_0
abbrev r0_84 : Rect S1x84x8400 := Rect.unit (s := S1x84x8400) ![0, 0, 3584] S1x4x128.size inb_S1x84x8400_S1x4x128_0_0_3584
abbrev r0_85 : Rect S1x84x8400 := Rect.unit (s := S1x84x8400) ![0, 4, 3584] S1x80x128.size inb_S1x84x8400_S1x80x128_0_4_3584
abbrev r0_86 : Rect S1x66x8x128 := Rect.unit (s := S1x66x8x128) ![0, 28, 0, 0] S1x1x8x128.size inb_S1x66x8x128_S1x1x8x128_0_28_0_0
abbrev r0_87 : Rect S1x84x8400 := Rect.unit (s := S1x84x8400) ![0, 0, 3712] S1x4x128.size inb_S1x84x8400_S1x4x128_0_0_3712
abbrev r0_88 : Rect S1x84x8400 := Rect.unit (s := S1x84x8400) ![0, 4, 3712] S1x80x128.size inb_S1x84x8400_S1x80x128_0_4_3712
abbrev r0_89 : Rect S1x66x8x128 := Rect.unit (s := S1x66x8x128) ![0, 29, 0, 0] S1x1x8x128.size inb_S1x66x8x128_S1x1x8x128_0_29_0_0
abbrev r0_90 : Rect S1x84x8400 := Rect.unit (s := S1x84x8400) ![0, 0, 3840] S1x4x128.size inb_S1x84x8400_S1x4x128_0_0_3840
abbrev r0_91 : Rect S1x84x8400 := Rect.unit (s := S1x84x8400) ![0, 4, 3840] S1x80x128.size inb_S1x84x8400_S1x80x128_0_4_3840
abbrev r0_92 : Rect S1x66x8x128 := Rect.unit (s := S1x66x8x128) ![0, 30, 0, 0] S1x1x8x128.size inb_S1x66x8x128_S1x1x8x128_0_30_0_0
abbrev r0_93 : Rect S1x84x8400 := Rect.unit (s := S1x84x8400) ![0, 0, 3968] S1x4x128.size inb_S1x84x8400_S1x4x128_0_0_3968
abbrev r0_94 : Rect S1x84x8400 := Rect.unit (s := S1x84x8400) ![0, 4, 3968] S1x80x128.size inb_S1x84x8400_S1x80x128_0_4_3968
abbrev r0_95 : Rect S1x66x8x128 := Rect.unit (s := S1x66x8x128) ![0, 31, 0, 0] S1x1x8x128.size inb_S1x66x8x128_S1x1x8x128_0_31_0_0
abbrev r0_96 : Rect S1x84x8400 := Rect.unit (s := S1x84x8400) ![0, 0, 4096] S1x4x128.size inb_S1x84x8400_S1x4x128_0_0_4096
abbrev r0_97 : Rect S1x84x8400 := Rect.unit (s := S1x84x8400) ![0, 4, 4096] S1x80x128.size inb_S1x84x8400_S1x80x128_0_4_4096
abbrev r0_98 : Rect S1x66x8x128 := Rect.unit (s := S1x66x8x128) ![0, 32, 0, 0] S1x1x8x128.size inb_S1x66x8x128_S1x1x8x128_0_32_0_0
abbrev r0_99 : Rect S1x84x8400 := Rect.unit (s := S1x84x8400) ![0, 0, 4224] S1x4x128.size inb_S1x84x8400_S1x4x128_0_0_4224
abbrev r0_100 : Rect S1x84x8400 := Rect.unit (s := S1x84x8400) ![0, 4, 4224] S1x80x128.size inb_S1x84x8400_S1x80x128_0_4_4224
abbrev r0_101 : Rect S1x66x8x128 := Rect.unit (s := S1x66x8x128) ![0, 33, 0, 0] S1x1x8x128.size inb_S1x66x8x128_S1x1x8x128_0_33_0_0
abbrev r0_102 : Rect S1x84x8400 := Rect.unit (s := S1x84x8400) ![0, 0, 4352] S1x4x128.size inb_S1x84x8400_S1x4x128_0_0_4352
abbrev r0_103 : Rect S1x84x8400 := Rect.unit (s := S1x84x8400) ![0, 4, 4352] S1x80x128.size inb_S1x84x8400_S1x80x128_0_4_4352
abbrev r0_104 : Rect S1x66x8x128 := Rect.unit (s := S1x66x8x128) ![0, 34, 0, 0] S1x1x8x128.size inb_S1x66x8x128_S1x1x8x128_0_34_0_0
abbrev r0_105 : Rect S1x84x8400 := Rect.unit (s := S1x84x8400) ![0, 0, 4480] S1x4x128.size inb_S1x84x8400_S1x4x128_0_0_4480
abbrev r0_106 : Rect S1x84x8400 := Rect.unit (s := S1x84x8400) ![0, 4, 4480] S1x80x128.size inb_S1x84x8400_S1x80x128_0_4_4480
abbrev r0_107 : Rect S1x66x8x128 := Rect.unit (s := S1x66x8x128) ![0, 35, 0, 0] S1x1x8x128.size inb_S1x66x8x128_S1x1x8x128_0_35_0_0
abbrev r0_108 : Rect S1x84x8400 := Rect.unit (s := S1x84x8400) ![0, 0, 4608] S1x4x128.size inb_S1x84x8400_S1x4x128_0_0_4608
abbrev r0_109 : Rect S1x84x8400 := Rect.unit (s := S1x84x8400) ![0, 4, 4608] S1x80x128.size inb_S1x84x8400_S1x80x128_0_4_4608
abbrev r0_110 : Rect S1x66x8x128 := Rect.unit (s := S1x66x8x128) ![0, 36, 0, 0] S1x1x8x128.size inb_S1x66x8x128_S1x1x8x128_0_36_0_0
abbrev r0_111 : Rect S1x84x8400 := Rect.unit (s := S1x84x8400) ![0, 0, 4736] S1x4x128.size inb_S1x84x8400_S1x4x128_0_0_4736
abbrev r0_112 : Rect S1x84x8400 := Rect.unit (s := S1x84x8400) ![0, 4, 4736] S1x80x128.size inb_S1x84x8400_S1x80x128_0_4_4736
abbrev r0_113 : Rect S1x66x8x128 := Rect.unit (s := S1x66x8x128) ![0, 37, 0, 0] S1x1x8x128.size inb_S1x66x8x128_S1x1x8x128_0_37_0_0
abbrev r0_114 : Rect S1x84x8400 := Rect.unit (s := S1x84x8400) ![0, 0, 4864] S1x4x128.size inb_S1x84x8400_S1x4x128_0_0_4864
abbrev r0_115 : Rect S1x84x8400 := Rect.unit (s := S1x84x8400) ![0, 4, 4864] S1x80x128.size inb_S1x84x8400_S1x80x128_0_4_4864
abbrev r0_116 : Rect S1x66x8x128 := Rect.unit (s := S1x66x8x128) ![0, 38, 0, 0] S1x1x8x128.size inb_S1x66x8x128_S1x1x8x128_0_38_0_0
abbrev r0_117 : Rect S1x84x8400 := Rect.unit (s := S1x84x8400) ![0, 0, 4992] S1x4x128.size inb_S1x84x8400_S1x4x128_0_0_4992
abbrev r0_118 : Rect S1x84x8400 := Rect.unit (s := S1x84x8400) ![0, 4, 4992] S1x80x128.size inb_S1x84x8400_S1x80x128_0_4_4992
abbrev r0_119 : Rect S1x66x8x128 := Rect.unit (s := S1x66x8x128) ![0, 39, 0, 0] S1x1x8x128.size inb_S1x66x8x128_S1x1x8x128_0_39_0_0
abbrev r0_120 : Rect S1x84x8400 := Rect.unit (s := S1x84x8400) ![0, 0, 5120] S1x4x128.size inb_S1x84x8400_S1x4x128_0_0_5120
abbrev r0_121 : Rect S1x84x8400 := Rect.unit (s := S1x84x8400) ![0, 4, 5120] S1x80x128.size inb_S1x84x8400_S1x80x128_0_4_5120
abbrev r0_122 : Rect S1x66x8x128 := Rect.unit (s := S1x66x8x128) ![0, 40, 0, 0] S1x1x8x128.size inb_S1x66x8x128_S1x1x8x128_0_40_0_0
abbrev r0_123 : Rect S1x84x8400 := Rect.unit (s := S1x84x8400) ![0, 0, 5248] S1x4x128.size inb_S1x84x8400_S1x4x128_0_0_5248
abbrev r0_124 : Rect S1x84x8400 := Rect.unit (s := S1x84x8400) ![0, 4, 5248] S1x80x128.size inb_S1x84x8400_S1x80x128_0_4_5248
abbrev r0_125 : Rect S1x66x8x128 := Rect.unit (s := S1x66x8x128) ![0, 41, 0, 0] S1x1x8x128.size inb_S1x66x8x128_S1x1x8x128_0_41_0_0
abbrev r0_126 : Rect S1x84x8400 := Rect.unit (s := S1x84x8400) ![0, 0, 5376] S1x4x128.size inb_S1x84x8400_S1x4x128_0_0_5376
abbrev r0_127 : Rect S1x84x8400 := Rect.unit (s := S1x84x8400) ![0, 4, 5376] S1x80x128.size inb_S1x84x8400_S1x80x128_0_4_5376
abbrev r0_128 : Rect S1x66x8x128 := Rect.unit (s := S1x66x8x128) ![0, 42, 0, 0] S1x1x8x128.size inb_S1x66x8x128_S1x1x8x128_0_42_0_0
abbrev r0_129 : Rect S1x84x8400 := Rect.unit (s := S1x84x8400) ![0, 0, 5504] S1x4x128.size inb_S1x84x8400_S1x4x128_0_0_5504
abbrev r0_130 : Rect S1x84x8400 := Rect.unit (s := S1x84x8400) ![0, 4, 5504] S1x80x128.size inb_S1x84x8400_S1x80x128_0_4_5504
abbrev r0_131 : Rect S1x66x8x128 := Rect.unit (s := S1x66x8x128) ![0, 43, 0, 0] S1x1x8x128.size inb_S1x66x8x128_S1x1x8x128_0_43_0_0
abbrev r0_132 : Rect S1x84x8400 := Rect.unit (s := S1x84x8400) ![0, 0, 5632] S1x4x128.size inb_S1x84x8400_S1x4x128_0_0_5632
abbrev r0_133 : Rect S1x84x8400 := Rect.unit (s := S1x84x8400) ![0, 4, 5632] S1x80x128.size inb_S1x84x8400_S1x80x128_0_4_5632
abbrev r0_134 : Rect S1x66x8x128 := Rect.unit (s := S1x66x8x128) ![0, 44, 0, 0] S1x1x8x128.size inb_S1x66x8x128_S1x1x8x128_0_44_0_0
abbrev r0_135 : Rect S1x84x8400 := Rect.unit (s := S1x84x8400) ![0, 0, 5760] S1x4x128.size inb_S1x84x8400_S1x4x128_0_0_5760
abbrev r0_136 : Rect S1x84x8400 := Rect.unit (s := S1x84x8400) ![0, 4, 5760] S1x80x128.size inb_S1x84x8400_S1x80x128_0_4_5760
abbrev r0_137 : Rect S1x66x8x128 := Rect.unit (s := S1x66x8x128) ![0, 45, 0, 0] S1x1x8x128.size inb_S1x66x8x128_S1x1x8x128_0_45_0_0
abbrev r0_138 : Rect S1x84x8400 := Rect.unit (s := S1x84x8400) ![0, 0, 5888] S1x4x128.size inb_S1x84x8400_S1x4x128_0_0_5888
abbrev r0_139 : Rect S1x84x8400 := Rect.unit (s := S1x84x8400) ![0, 4, 5888] S1x80x128.size inb_S1x84x8400_S1x80x128_0_4_5888
abbrev r0_140 : Rect S1x66x8x128 := Rect.unit (s := S1x66x8x128) ![0, 46, 0, 0] S1x1x8x128.size inb_S1x66x8x128_S1x1x8x128_0_46_0_0
abbrev r0_141 : Rect S1x84x8400 := Rect.unit (s := S1x84x8400) ![0, 0, 6016] S1x4x128.size inb_S1x84x8400_S1x4x128_0_0_6016
abbrev r0_142 : Rect S1x84x8400 := Rect.unit (s := S1x84x8400) ![0, 4, 6016] S1x80x128.size inb_S1x84x8400_S1x80x128_0_4_6016
abbrev r0_143 : Rect S1x66x8x128 := Rect.unit (s := S1x66x8x128) ![0, 47, 0, 0] S1x1x8x128.size inb_S1x66x8x128_S1x1x8x128_0_47_0_0
abbrev r0_144 : Rect S1x84x8400 := Rect.unit (s := S1x84x8400) ![0, 0, 6144] S1x4x128.size inb_S1x84x8400_S1x4x128_0_0_6144
abbrev r0_145 : Rect S1x84x8400 := Rect.unit (s := S1x84x8400) ![0, 4, 6144] S1x80x128.size inb_S1x84x8400_S1x80x128_0_4_6144
abbrev r0_146 : Rect S1x66x8x128 := Rect.unit (s := S1x66x8x128) ![0, 48, 0, 0] S1x1x8x128.size inb_S1x66x8x128_S1x1x8x128_0_48_0_0
abbrev r0_147 : Rect S1x84x8400 := Rect.unit (s := S1x84x8400) ![0, 0, 6272] S1x4x128.size inb_S1x84x8400_S1x4x128_0_0_6272
abbrev r0_148 : Rect S1x84x8400 := Rect.unit (s := S1x84x8400) ![0, 4, 6272] S1x80x128.size inb_S1x84x8400_S1x80x128_0_4_6272
abbrev r0_149 : Rect S1x66x8x128 := Rect.unit (s := S1x66x8x128) ![0, 49, 0, 0] S1x1x8x128.size inb_S1x66x8x128_S1x1x8x128_0_49_0_0
abbrev r0_150 : Rect S1x84x8400 := Rect.unit (s := S1x84x8400) ![0, 0, 6400] S1x4x128.size inb_S1x84x8400_S1x4x128_0_0_6400
abbrev r0_151 : Rect S1x84x8400 := Rect.unit (s := S1x84x8400) ![0, 4, 6400] S1x80x128.size inb_S1x84x8400_S1x80x128_0_4_6400
abbrev r0_152 : Rect S1x66x8x128 := Rect.unit (s := S1x66x8x128) ![0, 50, 0, 0] S1x1x8x128.size inb_S1x66x8x128_S1x1x8x128_0_50_0_0
abbrev r0_153 : Rect S1x84x8400 := Rect.unit (s := S1x84x8400) ![0, 0, 6528] S1x4x128.size inb_S1x84x8400_S1x4x128_0_0_6528
abbrev r0_154 : Rect S1x84x8400 := Rect.unit (s := S1x84x8400) ![0, 4, 6528] S1x80x128.size inb_S1x84x8400_S1x80x128_0_4_6528
abbrev r0_155 : Rect S1x66x8x128 := Rect.unit (s := S1x66x8x128) ![0, 51, 0, 0] S1x1x8x128.size inb_S1x66x8x128_S1x1x8x128_0_51_0_0
abbrev r0_156 : Rect S1x84x8400 := Rect.unit (s := S1x84x8400) ![0, 0, 6656] S1x4x128.size inb_S1x84x8400_S1x4x128_0_0_6656
abbrev r0_157 : Rect S1x84x8400 := Rect.unit (s := S1x84x8400) ![0, 4, 6656] S1x80x128.size inb_S1x84x8400_S1x80x128_0_4_6656
abbrev r0_158 : Rect S1x66x8x128 := Rect.unit (s := S1x66x8x128) ![0, 52, 0, 0] S1x1x8x128.size inb_S1x66x8x128_S1x1x8x128_0_52_0_0
abbrev r0_159 : Rect S1x84x8400 := Rect.unit (s := S1x84x8400) ![0, 0, 6784] S1x4x128.size inb_S1x84x8400_S1x4x128_0_0_6784
abbrev r0_160 : Rect S1x84x8400 := Rect.unit (s := S1x84x8400) ![0, 4, 6784] S1x80x128.size inb_S1x84x8400_S1x80x128_0_4_6784
abbrev r0_161 : Rect S1x66x8x128 := Rect.unit (s := S1x66x8x128) ![0, 53, 0, 0] S1x1x8x128.size inb_S1x66x8x128_S1x1x8x128_0_53_0_0
abbrev r0_162 : Rect S1x84x8400 := Rect.unit (s := S1x84x8400) ![0, 0, 6912] S1x4x128.size inb_S1x84x8400_S1x4x128_0_0_6912
abbrev r0_163 : Rect S1x84x8400 := Rect.unit (s := S1x84x8400) ![0, 4, 6912] S1x80x128.size inb_S1x84x8400_S1x80x128_0_4_6912
abbrev r0_164 : Rect S1x66x8x128 := Rect.unit (s := S1x66x8x128) ![0, 54, 0, 0] S1x1x8x128.size inb_S1x66x8x128_S1x1x8x128_0_54_0_0
abbrev r0_165 : Rect S1x84x8400 := Rect.unit (s := S1x84x8400) ![0, 0, 7040] S1x4x128.size inb_S1x84x8400_S1x4x128_0_0_7040
abbrev r0_166 : Rect S1x84x8400 := Rect.unit (s := S1x84x8400) ![0, 4, 7040] S1x80x128.size inb_S1x84x8400_S1x80x128_0_4_7040
abbrev r0_167 : Rect S1x66x8x128 := Rect.unit (s := S1x66x8x128) ![0, 55, 0, 0] S1x1x8x128.size inb_S1x66x8x128_S1x1x8x128_0_55_0_0
abbrev r0_168 : Rect S1x84x8400 := Rect.unit (s := S1x84x8400) ![0, 0, 7168] S1x4x128.size inb_S1x84x8400_S1x4x128_0_0_7168
abbrev r0_169 : Rect S1x84x8400 := Rect.unit (s := S1x84x8400) ![0, 4, 7168] S1x80x128.size inb_S1x84x8400_S1x80x128_0_4_7168
abbrev r0_170 : Rect S1x66x8x128 := Rect.unit (s := S1x66x8x128) ![0, 56, 0, 0] S1x1x8x128.size inb_S1x66x8x128_S1x1x8x128_0_56_0_0
abbrev r0_171 : Rect S1x84x8400 := Rect.unit (s := S1x84x8400) ![0, 0, 7296] S1x4x128.size inb_S1x84x8400_S1x4x128_0_0_7296
abbrev r0_172 : Rect S1x84x8400 := Rect.unit (s := S1x84x8400) ![0, 4, 7296] S1x80x128.size inb_S1x84x8400_S1x80x128_0_4_7296
abbrev r0_173 : Rect S1x66x8x128 := Rect.unit (s := S1x66x8x128) ![0, 57, 0, 0] S1x1x8x128.size inb_S1x66x8x128_S1x1x8x128_0_57_0_0
abbrev r0_174 : Rect S1x84x8400 := Rect.unit (s := S1x84x8400) ![0, 0, 7424] S1x4x128.size inb_S1x84x8400_S1x4x128_0_0_7424
abbrev r0_175 : Rect S1x84x8400 := Rect.unit (s := S1x84x8400) ![0, 4, 7424] S1x80x128.size inb_S1x84x8400_S1x80x128_0_4_7424
abbrev r0_176 : Rect S1x66x8x128 := Rect.unit (s := S1x66x8x128) ![0, 58, 0, 0] S1x1x8x128.size inb_S1x66x8x128_S1x1x8x128_0_58_0_0
abbrev r0_177 : Rect S1x84x8400 := Rect.unit (s := S1x84x8400) ![0, 0, 7552] S1x4x128.size inb_S1x84x8400_S1x4x128_0_0_7552
abbrev r0_178 : Rect S1x84x8400 := Rect.unit (s := S1x84x8400) ![0, 4, 7552] S1x80x128.size inb_S1x84x8400_S1x80x128_0_4_7552
abbrev r0_179 : Rect S1x66x8x128 := Rect.unit (s := S1x66x8x128) ![0, 59, 0, 0] S1x1x8x128.size inb_S1x66x8x128_S1x1x8x128_0_59_0_0
abbrev r0_180 : Rect S1x84x8400 := Rect.unit (s := S1x84x8400) ![0, 0, 7680] S1x4x128.size inb_S1x84x8400_S1x4x128_0_0_7680
abbrev r0_181 : Rect S1x84x8400 := Rect.unit (s := S1x84x8400) ![0, 4, 7680] S1x80x128.size inb_S1x84x8400_S1x80x128_0_4_7680
abbrev r0_182 : Rect S1x66x8x128 := Rect.unit (s := S1x66x8x128) ![0, 60, 0, 0] S1x1x8x128.size inb_S1x66x8x128_S1x1x8x128_0_60_0_0
abbrev r0_183 : Rect S1x84x8400 := Rect.unit (s := S1x84x8400) ![0, 0, 7808] S1x4x128.size inb_S1x84x8400_S1x4x128_0_0_7808
abbrev r0_184 : Rect S1x84x8400 := Rect.unit (s := S1x84x8400) ![0, 4, 7808] S1x80x128.size inb_S1x84x8400_S1x80x128_0_4_7808
abbrev r0_185 : Rect S1x66x8x128 := Rect.unit (s := S1x66x8x128) ![0, 61, 0, 0] S1x1x8x128.size inb_S1x66x8x128_S1x1x8x128_0_61_0_0
abbrev r0_186 : Rect S1x84x8400 := Rect.unit (s := S1x84x8400) ![0, 0, 7936] S1x4x128.size inb_S1x84x8400_S1x4x128_0_0_7936
abbrev r0_187 : Rect S1x84x8400 := Rect.unit (s := S1x84x8400) ![0, 4, 7936] S1x80x128.size inb_S1x84x8400_S1x80x128_0_4_7936
abbrev r0_188 : Rect S1x66x8x128 := Rect.unit (s := S1x66x8x128) ![0, 62, 0, 0] S1x1x8x128.size inb_S1x66x8x128_S1x1x8x128_0_62_0_0
abbrev r0_189 : Rect S1x84x8400 := Rect.unit (s := S1x84x8400) ![0, 0, 8064] S1x4x128.size inb_S1x84x8400_S1x4x128_0_0_8064
abbrev r0_190 : Rect S1x84x8400 := Rect.unit (s := S1x84x8400) ![0, 4, 8064] S1x80x128.size inb_S1x84x8400_S1x80x128_0_4_8064
abbrev r0_191 : Rect S1x66x8x128 := Rect.unit (s := S1x66x8x128) ![0, 63, 0, 0] S1x1x8x128.size inb_S1x66x8x128_S1x1x8x128_0_63_0_0
abbrev r0_192 : Rect S1x84x8400 := Rect.unit (s := S1x84x8400) ![0, 0, 8192] S1x4x128.size inb_S1x84x8400_S1x4x128_0_0_8192
abbrev r0_193 : Rect S1x84x8400 := Rect.unit (s := S1x84x8400) ![0, 4, 8192] S1x80x128.size inb_S1x84x8400_S1x80x128_0_4_8192
abbrev r0_194 : Rect S1x66x8x128 := Rect.unit (s := S1x66x8x128) ![0, 64, 0, 0] S1x1x8x128.size inb_S1x66x8x128_S1x1x8x128_0_64_0_0
abbrev r0_195 : Rect S1x84x8400 := Rect.unit (s := S1x84x8400) ![0, 0, 8320] S1x4x80.size inb_S1x84x8400_S1x4x80_0_0_8320
abbrev r0_196 : Rect S1x84x8400 := Rect.unit (s := S1x84x8400) ![0, 4, 8320] S1x80x80.size inb_S1x84x8400_S1x80x80_0_4_8320
abbrev r0_197 : Rect S1x66x8x128 := Rect.unit (s := S1x66x8x128) ![0, 65, 0, 0] S1x1x8x128.size inb_S1x66x8x128_S1x1x8x128_0_65_0_0

/-! ## What the body leaves in each output window's buffer -/

/-- Window 1's staging buffer after the body, from the input windows' blocks: its 66 stores as pieces, LAST
    FIRST (Lib/Pipeline/FrameBody.lean `View.canon`; the payloads are the skeleton's). -/
def out0_1 (x0 : Vec F S1x84x8400 .f32) : Vec F S1x66x8x128 .f32 :=
  View.canon [⟨r0_197, k0_pay1 (k0_pay67 (View.ld x0 r0_195) (View.ld x0 r0_196))⟩,
    ⟨r0_194, k0_pay66 (View.ld x0 r0_192) (View.ld x0 r0_193)⟩,
    ⟨r0_191, k0_pay65 (View.ld x0 r0_189) (View.ld x0 r0_190)⟩,
    ⟨r0_188, k0_pay64 (View.ld x0 r0_186) (View.ld x0 r0_187)⟩,
    ⟨r0_185, k0_pay63 (View.ld x0 r0_183) (View.ld x0 r0_184)⟩,
    ⟨r0_182, k0_pay62 (View.ld x0 r0_180) (View.ld x0 r0_181)⟩,
    ⟨r0_179, k0_pay61 (View.ld x0 r0_177) (View.ld x0 r0_178)⟩,
    ⟨r0_176, k0_pay60 (View.ld x0 r0_174) (View.ld x0 r0_175)⟩,
    ⟨r0_173, k0_pay59 (View.ld x0 r0_171) (View.ld x0 r0_172)⟩,
    ⟨r0_170, k0_pay58 (View.ld x0 r0_168) (View.ld x0 r0_169)⟩,
    ⟨r0_167, k0_pay57 (View.ld x0 r0_165) (View.ld x0 r0_166)⟩,
    ⟨r0_164, k0_pay56 (View.ld x0 r0_162) (View.ld x0 r0_163)⟩,
    ⟨r0_161, k0_pay55 (View.ld x0 r0_159) (View.ld x0 r0_160)⟩,
    ⟨r0_158, k0_pay54 (View.ld x0 r0_156) (View.ld x0 r0_157)⟩,
    ⟨r0_155, k0_pay53 (View.ld x0 r0_153) (View.ld x0 r0_154)⟩,
    ⟨r0_152, k0_pay52 (View.ld x0 r0_150) (View.ld x0 r0_151)⟩,
    ⟨r0_149, k0_pay51 (View.ld x0 r0_147) (View.ld x0 r0_148)⟩,
    ⟨r0_146, k0_pay50 (View.ld x0 r0_144) (View.ld x0 r0_145)⟩,
    ⟨r0_143, k0_pay49 (View.ld x0 r0_141) (View.ld x0 r0_142)⟩,
    ⟨r0_140, k0_pay48 (View.ld x0 r0_138) (View.ld x0 r0_139)⟩,
    ⟨r0_137, k0_pay47 (View.ld x0 r0_135) (View.ld x0 r0_136)⟩,
    ⟨r0_134, k0_pay46 (View.ld x0 r0_132) (View.ld x0 r0_133)⟩,
    ⟨r0_131, k0_pay45 (View.ld x0 r0_129) (View.ld x0 r0_130)⟩,
    ⟨r0_128, k0_pay44 (View.ld x0 r0_126) (View.ld x0 r0_127)⟩,
    ⟨r0_125, k0_pay43 (View.ld x0 r0_123) (View.ld x0 r0_124)⟩,
    ⟨r0_122, k0_pay42 (View.ld x0 r0_120) (View.ld x0 r0_121)⟩,
    ⟨r0_119, k0_pay41 (View.ld x0 r0_117) (View.ld x0 r0_118)⟩,
    ⟨r0_116, k0_pay40 (View.ld x0 r0_114) (View.ld x0 r0_115)⟩,
    ⟨r0_113, k0_pay39 (View.ld x0 r0_111) (View.ld x0 r0_112)⟩,
    ⟨r0_110, k0_pay38 (View.ld x0 r0_108) (View.ld x0 r0_109)⟩,
    ⟨r0_107, k0_pay37 (View.ld x0 r0_105) (View.ld x0 r0_106)⟩,
    ⟨r0_104, k0_pay36 (View.ld x0 r0_102) (View.ld x0 r0_103)⟩,
    ⟨r0_101, k0_pay35 (View.ld x0 r0_99) (View.ld x0 r0_100)⟩,
    ⟨r0_98, k0_pay34 (View.ld x0 r0_96) (View.ld x0 r0_97)⟩,
    ⟨r0_95, k0_pay33 (View.ld x0 r0_93) (View.ld x0 r0_94)⟩,
    ⟨r0_92, k0_pay32 (View.ld x0 r0_90) (View.ld x0 r0_91)⟩,
    ⟨r0_89, k0_pay31 (View.ld x0 r0_87) (View.ld x0 r0_88)⟩,
    ⟨r0_86, k0_pay30 (View.ld x0 r0_84) (View.ld x0 r0_85)⟩,
    ⟨r0_83, k0_pay29 (View.ld x0 r0_81) (View.ld x0 r0_82)⟩,
    ⟨r0_80, k0_pay28 (View.ld x0 r0_78) (View.ld x0 r0_79)⟩,
    ⟨r0_77, k0_pay27 (View.ld x0 r0_75) (View.ld x0 r0_76)⟩,
    ⟨r0_74, k0_pay26 (View.ld x0 r0_72) (View.ld x0 r0_73)⟩,
    ⟨r0_71, k0_pay25 (View.ld x0 r0_69) (View.ld x0 r0_70)⟩,
    ⟨r0_68, k0_pay24 (View.ld x0 r0_66) (View.ld x0 r0_67)⟩,
    ⟨r0_65, k0_pay23 (View.ld x0 r0_63) (View.ld x0 r0_64)⟩,
    ⟨r0_62, k0_pay22 (View.ld x0 r0_60) (View.ld x0 r0_61)⟩,
    ⟨r0_59, k0_pay21 (View.ld x0 r0_57) (View.ld x0 r0_58)⟩,
    ⟨r0_56, k0_pay20 (View.ld x0 r0_54) (View.ld x0 r0_55)⟩,
    ⟨r0_53, k0_pay19 (View.ld x0 r0_51) (View.ld x0 r0_52)⟩,
    ⟨r0_50, k0_pay18 (View.ld x0 r0_48) (View.ld x0 r0_49)⟩,
    ⟨r0_47, k0_pay17 (View.ld x0 r0_45) (View.ld x0 r0_46)⟩,
    ⟨r0_44, k0_pay16 (View.ld x0 r0_42) (View.ld x0 r0_43)⟩,
    ⟨r0_41, k0_pay15 (View.ld x0 r0_39) (View.ld x0 r0_40)⟩,
    ⟨r0_38, k0_pay14 (View.ld x0 r0_36) (View.ld x0 r0_37)⟩,
    ⟨r0_35, k0_pay13 (View.ld x0 r0_33) (View.ld x0 r0_34)⟩,
    ⟨r0_32, k0_pay12 (View.ld x0 r0_30) (View.ld x0 r0_31)⟩,
    ⟨r0_29, k0_pay11 (View.ld x0 r0_27) (View.ld x0 r0_28)⟩,
    ⟨r0_26, k0_pay10 (View.ld x0 r0_24) (View.ld x0 r0_25)⟩,
    ⟨r0_23, k0_pay9 (View.ld x0 r0_21) (View.ld x0 r0_22)⟩,
    ⟨r0_20, k0_pay8 (View.ld x0 r0_18) (View.ld x0 r0_19)⟩,
    ⟨r0_17, k0_pay7 (View.ld x0 r0_15) (View.ld x0 r0_16)⟩,
    ⟨r0_14, k0_pay6 (View.ld x0 r0_12) (View.ld x0 r0_13)⟩,
    ⟨r0_11, k0_pay5 (View.ld x0 r0_9) (View.ld x0 r0_10)⟩,
    ⟨r0_8, k0_pay4 (View.ld x0 r0_6) (View.ld x0 r0_7)⟩,
    ⟨r0_5, k0_pay3 (View.ld x0 r0_3) (View.ld x0 r0_4)⟩,
    ⟨r0_2, k0_pay2 (View.ld x0 r0_0) (View.ld x0 r0_1)⟩]

/-- Its stores tile the buffer (checked by evaluation), so they cover it. -/
theorem cover0_1 (p0 : Vec F S1x1x8x128 .f32) (p1 : Vec F S1x1x8x128 .f32) (p2 : Vec F S1x1x8x128 .f32) (p3 : Vec F S1x1x8x128 .f32) (p4 : Vec F S1x1x8x128 .f32) (p5 : Vec F S1x1x8x128 .f32) (p6 : Vec F S1x1x8x128 .f32) (p7 : Vec F S1x1x8x128 .f32) (p8 : Vec F S1x1x8x128 .f32) (p9 : Vec F S1x1x8x128 .f32) (p10 : Vec F S1x1x8x128 .f32) (p11 : Vec F S1x1x8x128 .f32) (p12 : Vec F S1x1x8x128 .f32) (p13 : Vec F S1x1x8x128 .f32) (p14 : Vec F S1x1x8x128 .f32) (p15 : Vec F S1x1x8x128 .f32) (p16 : Vec F S1x1x8x128 .f32) (p17 : Vec F S1x1x8x128 .f32) (p18 : Vec F S1x1x8x128 .f32) (p19 : Vec F S1x1x8x128 .f32) (p20 : Vec F S1x1x8x128 .f32) (p21 : Vec F S1x1x8x128 .f32) (p22 : Vec F S1x1x8x128 .f32) (p23 : Vec F S1x1x8x128 .f32) (p24 : Vec F S1x1x8x128 .f32) (p25 : Vec F S1x1x8x128 .f32) (p26 : Vec F S1x1x8x128 .f32) (p27 : Vec F S1x1x8x128 .f32) (p28 : Vec F S1x1x8x128 .f32) (p29 : Vec F S1x1x8x128 .f32) (p30 : Vec F S1x1x8x128 .f32) (p31 : Vec F S1x1x8x128 .f32) (p32 : Vec F S1x1x8x128 .f32) (p33 : Vec F S1x1x8x128 .f32) (p34 : Vec F S1x1x8x128 .f32) (p35 : Vec F S1x1x8x128 .f32) (p36 : Vec F S1x1x8x128 .f32) (p37 : Vec F S1x1x8x128 .f32) (p38 : Vec F S1x1x8x128 .f32) (p39 : Vec F S1x1x8x128 .f32) (p40 : Vec F S1x1x8x128 .f32) (p41 : Vec F S1x1x8x128 .f32) (p42 : Vec F S1x1x8x128 .f32) (p43 : Vec F S1x1x8x128 .f32) (p44 : Vec F S1x1x8x128 .f32) (p45 : Vec F S1x1x8x128 .f32) (p46 : Vec F S1x1x8x128 .f32) (p47 : Vec F S1x1x8x128 .f32) (p48 : Vec F S1x1x8x128 .f32) (p49 : Vec F S1x1x8x128 .f32) (p50 : Vec F S1x1x8x128 .f32) (p51 : Vec F S1x1x8x128 .f32) (p52 : Vec F S1x1x8x128 .f32) (p53 : Vec F S1x1x8x128 .f32) (p54 : Vec F S1x1x8x128 .f32) (p55 : Vec F S1x1x8x128 .f32) (p56 : Vec F S1x1x8x128 .f32) (p57 : Vec F S1x1x8x128 .f32) (p58 : Vec F S1x1x8x128 .f32) (p59 : Vec F S1x1x8x128 .f32) (p60 : Vec F S1x1x8x128 .f32) (p61 : Vec F S1x1x8x128 .f32) (p62 : Vec F S1x1x8x128 .f32) (p63 : Vec F S1x1x8x128 .f32) (p64 : Vec F S1x1x8x128 .f32) (p65 : Vec F S1x1x8x128 .f32) (y : S1x66x8x128.Idx) :
    ∃ pc ∈ ([⟨r0_197, p0⟩, ⟨r0_194, p1⟩, ⟨r0_191, p2⟩, ⟨r0_188, p3⟩, ⟨r0_185, p4⟩, ⟨r0_182, p5⟩, ⟨r0_179, p6⟩, ⟨r0_176, p7⟩, ⟨r0_173, p8⟩, ⟨r0_170, p9⟩, ⟨r0_167, p10⟩, ⟨r0_164, p11⟩, ⟨r0_161, p12⟩, ⟨r0_158, p13⟩, ⟨r0_155, p14⟩, ⟨r0_152, p15⟩, ⟨r0_149, p16⟩, ⟨r0_146, p17⟩, ⟨r0_143, p18⟩, ⟨r0_140, p19⟩, ⟨r0_137, p20⟩, ⟨r0_134, p21⟩, ⟨r0_131, p22⟩, ⟨r0_128, p23⟩, ⟨r0_125, p24⟩, ⟨r0_122, p25⟩, ⟨r0_119, p26⟩, ⟨r0_116, p27⟩, ⟨r0_113, p28⟩, ⟨r0_110, p29⟩, ⟨r0_107, p30⟩, ⟨r0_104, p31⟩, ⟨r0_101, p32⟩, ⟨r0_98, p33⟩, ⟨r0_95, p34⟩, ⟨r0_92, p35⟩, ⟨r0_89, p36⟩, ⟨r0_86, p37⟩, ⟨r0_83, p38⟩, ⟨r0_80, p39⟩, ⟨r0_77, p40⟩, ⟨r0_74, p41⟩, ⟨r0_71, p42⟩, ⟨r0_68, p43⟩, ⟨r0_65, p44⟩, ⟨r0_62, p45⟩, ⟨r0_59, p46⟩, ⟨r0_56, p47⟩, ⟨r0_53, p48⟩, ⟨r0_50, p49⟩, ⟨r0_47, p50⟩, ⟨r0_44, p51⟩, ⟨r0_41, p52⟩, ⟨r0_38, p53⟩, ⟨r0_35, p54⟩, ⟨r0_32, p55⟩, ⟨r0_29, p56⟩, ⟨r0_26, p57⟩, ⟨r0_23, p58⟩, ⟨r0_20, p59⟩, ⟨r0_17, p60⟩, ⟨r0_14, p61⟩, ⟨r0_11, p62⟩, ⟨r0_8, p63⟩, ⟨r0_5, p64⟩, ⟨r0_2, p65⟩] : List (View.Piece (Elt F) S1x66x8x128 .f32)), y ∈ pc.1.set :=
  View.cover_of_tiled [⟨r0_197, p0⟩, ⟨r0_194, p1⟩, ⟨r0_191, p2⟩, ⟨r0_188, p3⟩, ⟨r0_185, p4⟩, ⟨r0_182, p5⟩, ⟨r0_179, p6⟩, ⟨r0_176, p7⟩, ⟨r0_173, p8⟩, ⟨r0_170, p9⟩, ⟨r0_167, p10⟩, ⟨r0_164, p11⟩, ⟨r0_161, p12⟩, ⟨r0_158, p13⟩, ⟨r0_155, p14⟩, ⟨r0_152, p15⟩, ⟨r0_149, p16⟩, ⟨r0_146, p17⟩, ⟨r0_143, p18⟩, ⟨r0_140, p19⟩, ⟨r0_137, p20⟩, ⟨r0_134, p21⟩, ⟨r0_131, p22⟩, ⟨r0_128, p23⟩, ⟨r0_125, p24⟩, ⟨r0_122, p25⟩, ⟨r0_119, p26⟩, ⟨r0_116, p27⟩, ⟨r0_113, p28⟩, ⟨r0_110, p29⟩, ⟨r0_107, p30⟩, ⟨r0_104, p31⟩, ⟨r0_101, p32⟩, ⟨r0_98, p33⟩, ⟨r0_95, p34⟩, ⟨r0_92, p35⟩, ⟨r0_89, p36⟩, ⟨r0_86, p37⟩, ⟨r0_83, p38⟩, ⟨r0_80, p39⟩, ⟨r0_77, p40⟩, ⟨r0_74, p41⟩, ⟨r0_71, p42⟩, ⟨r0_68, p43⟩, ⟨r0_65, p44⟩, ⟨r0_62, p45⟩, ⟨r0_59, p46⟩, ⟨r0_56, p47⟩, ⟨r0_53, p48⟩, ⟨r0_50, p49⟩, ⟨r0_47, p50⟩, ⟨r0_44, p51⟩, ⟨r0_41, p52⟩, ⟨r0_38, p53⟩, ⟨r0_35, p54⟩, ⟨r0_32, p55⟩, ⟨r0_29, p56⟩, ⟨r0_26, p57⟩, ⟨r0_23, p58⟩, ⟨r0_20, p59⟩, ⟨r0_17, p60⟩, ⟨r0_14, p61⟩, ⟨r0_11, p62⟩, ⟨r0_8, p63⟩, ⟨r0_5, p64⟩, ⟨r0_2, p65⟩] S1x1x8x128.size (by rfl) y

/-! ## The body's triple -/

set_option maxHeartbeats 2392000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x84x8400 .f32) (harg1 : arg1.IsWhole) (arg2 : Memref sig .tc .vmem S1x66x8x128 .f32) (harg2 : arg2.IsWhole)
    (x0 : Vec F S1x84x8400 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.nat c none) E (cc0_yolo_pack i arg1 harg1 arg2 harg2) K := by
  simp only [cc0_yolo_pack_eq_skeleton]; unfold cc0_yolo_pack_skel
  simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ (cfg0 (F := F)) c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin (cfg0 (F := F)).W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin (cfg0 (F := F)).N) : (dat0 V c).after 0 t = iblk0 V c 0 t := by
  change (dat0 V c).after (⟨0, (by change _ < 2; decide)⟩ : Fin (cfg0 (F := F)).W) t = _; dsimp only [dat0]
theorem after0_1 (c : Dev nD) (t : Fin (cfg0 (F := F)).N) : (dat0 V c).after 1 t = out0_1 (iblk0 V c 0 t) := by
  change (dat0 V c).after (⟨1, (by change _ < 2; decide)⟩ : Fin (cfg0 (F := F)).W) t = _; dsimp only [dat0]

/-- Each input's current staging buffer holds its block at every point, fetched there or not (`beforeK_W_of`). -/
theorem before0_0 (c : Dev nD) (t : Fin (cfg0 (F := F)).N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin (cfg0 (F := F)).N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin (cfg0 (F := F)).N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin (cfg0 (F := F)).N) :
    bodyPre0 V c t ⊢ wp frame (wpE (defs₀ (F := F)) Variants.nat c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.nat () Set.univ := fun t => by
  rw [bigSep_W0, bigSep_W0, defs₀_row0]
  exact triple_restated (sound_body0 V c t) rfl .rfl fun _ => .rfl

end Regions

end Cert.KernelIdeal.Hand

end
-- ==== Proof.KI.Body1.lean ====
/- The second call (suppression): its windows, the body run with the while loop answered by its specification, its proof data and obligation. -/
module

public import proofs.«01_k».proof.Proof.KI.While

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

/-! # REGION 1 of @main: custom_call 1, `cc1_yolo_nms` (pipeline 1), at the entry contents `V` — class R -/

/-! ## The windows' blocks -/

/-- Window `w`'s block at point `t`, read off its array as the region finds it (`V`). -/
def iblk1 (c : Dev nD) (w : Fin (cfg1 (F := F)).W) (t : Fin (cfg1 (F := F)).N) : (((cfg1 (F := F)).win w).xblock ((cfg1 (F := F)).grid.coords t)).Idx → Elt F ((cfg1 (F := F)).win w).elt :=
  (((cfg1 (F := F)).win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ (cfg1 (F := F)) c) (hA : dat.A 0 = V c (Pipeline.arrRef spec1 0))
    (hafter : ∀ t, dat.after 0 t = iblk1 V c 0 t) (t : Fin (cfg1 (F := F)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ (cfg1 (F := F)) c) (hA : dat.A 1 = V c (Pipeline.arrRef spec1 1))
    (hafter : ∀ t, dat.after 1 t = iblk1 V c 1 t) (t : Fin (cfg1 (F := F)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S1x4x1024 .f32 := (Memref.whole cc1_stg2_0 : Memref sig .tc .vmem S1x4x1024 .f32).view
/-- One staging buffer of output window 3, through which its contents are stated (`View.read_writes_of_cover`: the
    choice does not matter). -/
abbrev VO1_3 : View sig .tc .vmem S1x1x1024 .f32 := (Memref.whole cc1_stg3_0 : Memref sig .tc .vmem S1x1x1024 .f32).view
/-- One staging buffer of output window 4, through which its contents are stated (`View.read_writes_of_cover`: the
    choice does not matter). -/
abbrev VO1_4 : View sig .tc .vmem S1x1x1024 .i32 := (Memref.whole cc1_stg4_0 : Memref sig .tc .vmem S1x1x1024 .i32).view
/-- One staging buffer of output window 5, through which its contents are stated (`View.read_writes_of_cover`: the
    choice does not matter). -/
abbrev VO1_5 : View sig .tc .vmem S1x1x1024 .i32 := (Memref.whole cc1_stg5_0 : Memref sig .tc .vmem S1x1x1024 .i32).view
/-- Each window's current staging memref at point `t`, spelled as the pipeline passes it (`bodyAt1`), and its wholeness. -/
abbrev ms1_0 (t : Fin (cfg1 (F := F)).N) : Memref sig .tc .vmem S1x66x8x128 .f32 := win1_0.stage ((cfg1 (F := F)).slots t 0)
abbrev hs1_0 (t : Fin (cfg1 (F := F)).N) : (ms1_0 t).IsWhole := hstage1_0 (((cfg1 (F := F)).slots t 0).cast nbuf1_0)
abbrev ms1_1 (t : Fin (cfg1 (F := F)).N) : Memref sig .tc .vmem S1x8x128 .i32 := win1_1.stage ((cfg1 (F := F)).slots t 1)
abbrev hs1_1 (t : Fin (cfg1 (F := F)).N) : (ms1_1 t).IsWhole := hstage1_1 (((cfg1 (F := F)).slots t 1).cast nbuf1_1)
abbrev ms1_2 (t : Fin (cfg1 (F := F)).N) : Memref sig .tc .vmem S1x4x1024 .f32 := win1_2.stage ((cfg1 (F := F)).slots t 2)
abbrev hs1_2 (t : Fin (cfg1 (F := F)).N) : (ms1_2 t).IsWhole := hstage1_2 (((cfg1 (F := F)).slots t 2).cast nbuf1_2)
abbrev ms1_3 (t : Fin (cfg1 (F := F)).N) : Memref sig .tc .vmem S1x1x1024 .f32 := win1_3.stage ((cfg1 (F := F)).slots t 3)
abbrev hs1_3 (t : Fin (cfg1 (F := F)).N) : (ms1_3 t).IsWhole := hstage1_3 (((cfg1 (F := F)).slots t 3).cast nbuf1_3)
abbrev ms1_4 (t : Fin (cfg1 (F := F)).N) : Memref sig .tc .vmem S1x1x1024 .i32 := win1_4.stage ((cfg1 (F := F)).slots t 4)
abbrev hs1_4 (t : Fin (cfg1 (F := F)).N) : (ms1_4 t).IsWhole := hstage1_4 (((cfg1 (F := F)).slots t 4).cast nbuf1_4)
abbrev ms1_5 (t : Fin (cfg1 (F := F)).N) : Memref sig .tc .vmem S1x1x1024 .i32 := win1_5.stage ((cfg1 (F := F)).slots t 5)
abbrev hs1_5 (t : Fin (cfg1 (F := F)).N) : (ms1_5 t).IsWhole := hstage1_5 (((cfg1 (F := F)).slots t 5).cast nbuf1_5)
/-- The scratch operands: whole scoped buffers of the kernel's own, passed beside the windows. -/
abbrev scM1_0 : Memref sig .tc .vmem S1024x1024 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 4140000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1x66x8x128 .f32) (harg1 : arg1.IsWhole) (arg2 : Memref sig .tc .vmem S1x8x128 .i32) (harg2 : arg2.IsWhole) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
    (x0 : Vec F S1x66x8x128 .f32) (x1 : Vec F S1x8x128 .i32) :
    Σ' (L2 : List (View.Piece (Elt F) S1x4x1024 .f32)), Σ' (L3 : List (View.Piece (Elt F) S1x1x1024 .f32)), Σ' (L4 : List (View.Piece (Elt F) S1x1x1024 .i32)), Σ' (L5 : List (View.Piece (Elt F) S1x1x1024 .i32)), { LT0 : List (View.Piece (Elt F) S1024x1024 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0)) -∗ K ⟨⟩))
          ⊢ wp frame (wpE (defs₀ (F := F)) Variants.nat c none) E (cc1_yolo_nms i arg1 harg1 arg2 harg2 arg3 harg3 arg4 harg4 arg5 harg5 arg6 harg6 arg7 harg7) K } := by
  refine ⟨?_, ?_, ?_, ?_, ?_, fun E K => ?run⟩
  case run =>
    simp only [cc1_yolo_nms_eq_skeleton]; unfold cc1_yolo_nms_skel
    simp only [k1_part213_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton, k1_part57_eq_skeleton, k1_part58_eq_skeleton, k1_part59_eq_skeleton, k1_part60_eq_skeleton, k1_part214_eq_skeleton, k1_part61_eq_skeleton, k1_part62_eq_skeleton, k1_part63_eq_skeleton, k1_part64_eq_skeleton, k1_part65_eq_skeleton, k1_part66_eq_skeleton, k1_part67_eq_skeleton, k1_part68_eq_skeleton, k1_part69_eq_skeleton, k1_part70_eq_skeleton, k1_part71_eq_skeleton, k1_part72_eq_skeleton, k1_part73_eq_skeleton, k1_part74_eq_skeleton, k1_part75_eq_skeleton, k1_part76_eq_skeleton, k1_part77_eq_skeleton, k1_part78_eq_skeleton, k1_part79_eq_skeleton, k1_part80_eq_skeleton, k1_part81_eq_skeleton, k1_part82_eq_skeleton, k1_part83_eq_skeleton, k1_part84_eq_skeleton, k1_part85_eq_skeleton, k1_part86_eq_skeleton, k1_part87_eq_skeleton, k1_part88_eq_skeleton, k1_part89_eq_skeleton, k1_part90_eq_skeleton, k1_part91_eq_skeleton, k1_part92_eq_skeleton, k1_part93_eq_skeleton, k1_part94_eq_skeleton, k1_part95_eq_skeleton, k1_part96_eq_skeleton, k1_part97_eq_skeleton, k1_part98_eq_skeleton, k1_part99_eq_skeleton, k1_part100_eq_skeleton, k1_part101_eq_skeleton, k1_part102_eq_skeleton, k1_part103_eq_skeleton, k1_part104_eq_skeleton, k1_part105_eq_skeleton, k1_part106_eq_skeleton, k1_part107_eq_skeleton, k1_part108_eq_skeleton, k1_part109_eq_skeleton, k1_part110_eq_skeleton, k1_part111_eq_skeleton, k1_part112_eq_skeleton, k1_part113_eq_skeleton, k1_part114_eq_skeleton, k1_part115_eq_skeleton, k1_part116_eq_skeleton, k1_part117_eq_skeleton, k1_part118_eq_skeleton, k1_part119_eq_skeleton, k1_part120_eq_skeleton, k1_part215_eq_skeleton, k1_part121_eq_skeleton, k1_part122_eq_skeleton, k1_part123_eq_skeleton, k1_part124_eq_skeleton, k1_part125_eq_skeleton, k1_part126_eq_skeleton, k1_part127_eq_skeleton, k1_part128_eq_skeleton, k1_part129_eq_skeleton, k1_part130_eq_skeleton, k1_part131_eq_skeleton, k1_part132_eq_skeleton, k1_part133_eq_skeleton, k1_part134_eq_skeleton, k1_part135_eq_skeleton, k1_part136_eq_skeleton, k1_part137_eq_skeleton, k1_part138_eq_skeleton, k1_part139_eq_skeleton, k1_part140_eq_skeleton, k1_part141_eq_skeleton, k1_part142_eq_skeleton, k1_part143_eq_skeleton, k1_part144_eq_skeleton, k1_part145_eq_skeleton, k1_part146_eq_skeleton, k1_part147_eq_skeleton, k1_part148_eq_skeleton, k1_part149_eq_skeleton, k1_part150_eq_skeleton, k1_part151_eq_skeleton, k1_part152_eq_skeleton, k1_part153_eq_skeleton, k1_part154_eq_skeleton, k1_part155_eq_skeleton, k1_part156_eq_skeleton, k1_part157_eq_skeleton, k1_part158_eq_skeleton, k1_part159_eq_skeleton, k1_part160_eq_skeleton, k1_part161_eq_skeleton, k1_part162_eq_skeleton, k1_part163_eq_skeleton, k1_part164_eq_skeleton, k1_part165_eq_skeleton, k1_part166_eq_skeleton, k1_part167_eq_skeleton, k1_part168_eq_skeleton, k1_part169_eq_skeleton, k1_part170_eq_skeleton, k1_part171_eq_skeleton, k1_part172_eq_skeleton, k1_part173_eq_skeleton, k1_part174_eq_skeleton, k1_part175_eq_skeleton, k1_part176_eq_skeleton, k1_part177_eq_skeleton, k1_part178_eq_skeleton, k1_part179_eq_skeleton, k1_part180_eq_skeleton, k1_part216_eq_skeleton, k1_part181_eq_skeleton, k1_part182_eq_skeleton, k1_part183_eq_skeleton, k1_part184_eq_skeleton, k1_part185_eq_skeleton, k1_part186_eq_skeleton, k1_part187_eq_skeleton, k1_part188_eq_skeleton, k1_part189_eq_skeleton, k1_part190_eq_skeleton, k1_part191_eq_skeleton, k1_part192_eq_skeleton, k1_part193_eq_skeleton, k1_part194_eq_skeleton, k1_part195_eq_skeleton, k1_part196_eq_skeleton, k1_part197_eq_skeleton, k1_part198_eq_skeleton, k1_part199_eq_skeleton, k1_part200_eq_skeleton, k1_part201_eq_skeleton, k1_part202_eq_skeleton, k1_part203_eq_skeleton, k1_part204_eq_skeleton, k1_part205_eq_skeleton, k1_part206_eq_skeleton, k1_part207_eq_skeleton, k1_part208_eq_skeleton, k1_part209_eq_skeleton, k1_part210_eq_skeleton, k1_part211_eq_skeleton, k1_part212_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1
    sl_exec
    iapply (loop_call c E i arg7 harg7 (View.cover_of_tiledL _ S64x1024.size (by sl_kernel_rfl))) $$ HS0; iintro HS0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    isplitl [H5]; · iexists _; iexact H5
    iexists _; iexact HS0

/-- The run's pieces for output 2 tile its block (1 store of `S1x4x1024`, checked by the kernel's evaluation: Lib/Ring.lean `Piece.tiledL`, linear in the pieces, through a loop's `@[irreducible]` trip theorem too), so they cover it. -/
theorem cover1_A_2 (c : Dev nD) (i : grid1.Coords) (arg1 : Memref sig .tc .vmem S1x66x8x128 .f32) (harg1 : arg1.IsWhole) (arg2 : Memref sig .tc .vmem S1x8x128 .i32) (harg2 : arg2.IsWhole) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
    (x0 : Vec F S1x66x8x128 .f32) (x1 : Vec F S1x8x128 .i32) (y : S1x4x1024.Idx) :
    ∃ pc ∈ (kernelRun1_A c i arg1 harg1 arg2 harg2 arg3 harg3 arg4 harg4 arg5 harg5 arg6 harg6 arg7 harg7 x0 x1).1, y ∈ pc.1.set :=
  View.cover_of_tiledL (kernelRun1_A c i arg1 harg1 arg2 harg2 arg3 harg3 arg4 harg4 arg5 harg5 arg6 harg6 arg7 harg7 x0 x1).1 S1x4x1024.size (by sl_kernel_rfl) y

/-- What the run leaves in output 2's staging buffer: its pieces read back over junk. -/
def out1_A_2 (c : Dev nD) (i : grid1.Coords) (arg1 : Memref sig .tc .vmem S1x66x8x128 .f32) (harg1 : arg1.IsWhole) (arg2 : Memref sig .tc .vmem S1x8x128 .i32) (harg2 : arg2.IsWhole) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
    (x0 : Vec F S1x66x8x128 .f32) (x1 : Vec F S1x8x128 .i32) : Vec F S1x4x1024 .f32 :=
  VO1_2.read (Elt F) (VO1_2.writes (Elt F) VO1_2.junk (kernelRun1_A c i arg1 harg1 arg2 harg2 arg3 harg3 arg4 harg4 arg5 harg5 arg6 harg6 arg7 harg7 x0 x1).1)

/-- The run's pieces for output 3 tile its block (1 store of `S1x1x1024`, checked by the kernel's evaluation: Lib/Ring.lean `Piece.tiledL`, linear in the pieces, through a loop's `@[irreducible]` trip theorem too), so they cover it. -/
theorem cover1_A_3 (c : Dev nD) (i : grid1.Coords) (arg1 : Memref sig .tc .vmem S1x66x8x128 .f32) (harg1 : arg1.IsWhole) (arg2 : Memref sig .tc .vmem S1x8x128 .i32) (harg2 : arg2.IsWhole) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
    (x0 : Vec F S1x66x8x128 .f32) (x1 : Vec F S1x8x128 .i32) (y : S1x1x1024.Idx) :
    ∃ pc ∈ (kernelRun1_A c i arg1 harg1 arg2 harg2 arg3 harg3 arg4 harg4 arg5 harg5 arg6 harg6 arg7 harg7 x0 x1).2.1, y ∈ pc.1.set :=
  View.cover_of_tiledL (kernelRun1_A c i arg1 harg1 arg2 harg2 arg3 harg3 arg4 harg4 arg5 harg5 arg6 harg6 arg7 harg7 x0 x1).2.1 S1x1x1024.size (by sl_kernel_rfl) y

/-- What the run leaves in output 3's staging buffer: its pieces read back over junk. -/
def out1_A_3 (c : Dev nD) (i : grid1.Coords) (arg1 : Memref sig .tc .vmem S1x66x8x128 .f32) (harg1 : arg1.IsWhole) (arg2 : Memref sig .tc .vmem S1x8x128 .i32) (harg2 : arg2.IsWhole) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
    (x0 : Vec F S1x66x8x128 .f32) (x1 : Vec F S1x8x128 .i32) : Vec F S1x1x1024 .f32 :=
  VO1_3.read (Elt F) (VO1_3.writes (Elt F) VO1_3.junk (kernelRun1_A c i arg1 harg1 arg2 harg2 arg3 harg3 arg4 harg4 arg5 harg5 arg6 harg6 arg7 harg7 x0 x1).2.1)

/-- The run's pieces for output 4 tile its block (1 store of `S1x1x1024`, checked by the kernel's evaluation: Lib/Ring.lean `Piece.tiledL`, linear in the pieces, through a loop's `@[irreducible]` trip theorem too), so they cover it. -/
theorem cover1_A_4 (c : Dev nD) (i : grid1.Coords) (arg1 : Memref sig .tc .vmem S1x66x8x128 .f32) (harg1 : arg1.IsWhole) (arg2 : Memref sig .tc .vmem S1x8x128 .i32) (harg2 : arg2.IsWhole) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
    (x0 : Vec F S1x66x8x128 .f32) (x1 : Vec F S1x8x128 .i32) (y : S1x1x1024.Idx) :
    ∃ pc ∈ (kernelRun1_A c i arg1 harg1 arg2 harg2 arg3 harg3 arg4 harg4 arg5 harg5 arg6 harg6 arg7 harg7 x0 x1).2.2.1, y ∈ pc.1.set :=
  View.cover_of_tiledL (kernelRun1_A c i arg1 harg1 arg2 harg2 arg3 harg3 arg4 harg4 arg5 harg5 arg6 harg6 arg7 harg7 x0 x1).2.2.1 S1x1x1024.size (by sl_kernel_rfl) y

/-- What the run leaves in output 4's staging buffer: its pieces read back over junk. -/
def out1_A_4 (c : Dev nD) (i : grid1.Coords) (arg1 : Memref sig .tc .vmem S1x66x8x128 .f32) (harg1 : arg1.IsWhole) (arg2 : Memref sig .tc .vmem S1x8x128 .i32) (harg2 : arg2.IsWhole) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
    (x0 : Vec F S1x66x8x128 .f32) (x1 : Vec F S1x8x128 .i32) : Vec F S1x1x1024 .i32 :=
  VO1_4.read (Elt F) (VO1_4.writes (Elt F) VO1_4.junk (kernelRun1_A c i arg1 harg1 arg2 harg2 arg3 harg3 arg4 harg4 arg5 harg5 arg6 harg6 arg7 harg7 x0 x1).2.2.1)

/-- The run's pieces for output 5 tile its block (1 store of `S1x1x1024`, checked by the kernel's evaluation: Lib/Ring.lean `Piece.tiledL`, linear in the pieces, through a loop's `@[irreducible]` trip theorem too), so they cover it. -/
theorem cover1_A_5 (c : Dev nD) (i : grid1.Coords) (arg1 : Memref sig .tc .vmem S1x66x8x128 .f32) (harg1 : arg1.IsWhole) (arg2 : Memref sig .tc .vmem S1x8x128 .i32) (harg2 : arg2.IsWhole) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
    (x0 : Vec F S1x66x8x128 .f32) (x1 : Vec F S1x8x128 .i32) (y : S1x1x1024.Idx) :
    ∃ pc ∈ (kernelRun1_A c i arg1 harg1 arg2 harg2 arg3 harg3 arg4 harg4 arg5 harg5 arg6 harg6 arg7 harg7 x0 x1).2.2.2.1, y ∈ pc.1.set :=
  View.cover_of_tiledL (kernelRun1_A c i arg1 harg1 arg2 harg2 arg3 harg3 arg4 harg4 arg5 harg5 arg6 harg6 arg7 harg7 x0 x1).2.2.2.1 S1x1x1024.size (by sl_kernel_rfl) y

/-- What the run leaves in output 5's staging buffer: its pieces read back over junk. -/
def out1_A_5 (c : Dev nD) (i : grid1.Coords) (arg1 : Memref sig .tc .vmem S1x66x8x128 .f32) (harg1 : arg1.IsWhole) (arg2 : Memref sig .tc .vmem S1x8x128 .i32) (harg2 : arg2.IsWhole) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
    (x0 : Vec F S1x66x8x128 .f32) (x1 : Vec F S1x8x128 .i32) : Vec F S1x1x1024 .i32 :=
  VO1_5.read (Elt F) (VO1_5.writes (Elt F) VO1_5.junk (kernelRun1_A c i arg1 harg1 arg2 harg2 arg3 harg3 arg4 harg4 arg5 harg5 arg6 harg6 arg7 harg7 x0 x1).2.2.2.1)

/-! ## What the outputs hold after each point -/

/-- What the outputs' staging buffers hold after the body at point `t` (as a tuple, in window order): the run's contents at
    the point's memrefs and input blocks. -/
def outsAt1 (c : Dev nD) (t : Fin (cfg1 (F := F)).N) : Vec F S1x4x1024 .f32 × Vec F S1x1x1024 .f32 × Vec F S1x1x1024 .i32 × Vec F S1x1x1024 .i32 :=
  (out1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t), out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (iblk1 V c 0 t) (iblk1 V c 1 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ (cfg1 (F := F)) c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2.1
    | ⟨4, _⟩ => (outsAt1 V c t).2.2.1
    | ⟨5, _⟩ => (outsAt1 V c t).2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin (cfg1 (F := F)).W) : (dat1 V c).A w = V c (Pipeline.arrRef spec1 w) := by
  dsimp only [dat1]

/-- What the body leaves, window by window (the proof data's `match` reduced by `dsimp`). -/
theorem after1_0 (c : Dev nD) (t : Fin (cfg1 (F := F)).N) : (dat1 V c).after 0 t = iblk1 V c 0 t := by
  change (dat1 V c).after (⟨0, (by change _ < 6; decide)⟩ : Fin (cfg1 (F := F)).W) t = _; dsimp only [dat1]
theorem after1_1 (c : Dev nD) (t : Fin (cfg1 (F := F)).N) : (dat1 V c).after 1 t = iblk1 V c 1 t := by
  change (dat1 V c).after (⟨1, (by change _ < 6; decide)⟩ : Fin (cfg1 (F := F)).W) t = _; dsimp only [dat1]
theorem after1_2 (c : Dev nD) (t : Fin (cfg1 (F := F)).N) : (dat1 V c).after 2 t = (outsAt1 V c t).1 := by
  change (dat1 V c).after (⟨2, (by change _ < 6; decide)⟩ : Fin (cfg1 (F := F)).W) t = _; dsimp only [dat1]
theorem after1_3 (c : Dev nD) (t : Fin (cfg1 (F := F)).N) : (dat1 V c).after 3 t = (outsAt1 V c t).2.1 := by
  change (dat1 V c).after (⟨3, (by change _ < 6; decide)⟩ : Fin (cfg1 (F := F)).W) t = _; dsimp only [dat1]
theorem after1_4 (c : Dev nD) (t : Fin (cfg1 (F := F)).N) : (dat1 V c).after 4 t = (outsAt1 V c t).2.2.1 := by
  change (dat1 V c).after (⟨4, (by change _ < 6; decide)⟩ : Fin (cfg1 (F := F)).W) t = _; dsimp only [dat1]
theorem after1_5 (c : Dev nD) (t : Fin (cfg1 (F := F)).N) : (dat1 V c).after 5 t = (outsAt1 V c t).2.2.2 := by
  change (dat1 V c).after (⟨5, (by change _ < 6; decide)⟩ : Fin (cfg1 (F := F)).W) t = _; dsimp only [dat1]

/-- Each input's current staging buffer holds its block at every point, fetched there or not (`beforeK_W_of`). -/
theorem before1_0 (c : Dev nD) (t : Fin (cfg1 (F := F)).N) (d) : (dat1 V c).before 0 t d = iblk1 V c 0 t :=
  before1_0_of V (dat1 V c) (A_eq1 V c 0) (after1_0 V c) t d
theorem before1_1 (c : Dev nD) (t : Fin (cfg1 (F := F)).N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin (cfg1 (F := F)).N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin (cfg1 (F := F)).N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin (cfg1 (F := F)).N) :
    bodyPre1 V c t ⊢ wp frame (wpE (defs₀ (F := F)) Variants.nat c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl, PhiA1_eq]
  unfold outsAt1
  unfold out1_A_2 out1_A_3 out1_A_4 out1_A_5; (try dsimp only)
  iintro ⟨⟨⟨HR0, HR1, HR2, HR3, HS0⟩, Hg⟩, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ _ _ (iblk1 V c 0 t) (iblk1 V c 1 t)).2.2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  iintro ⟨H0, H1, ⟨%e2, H2⟩, ⟨%e3, H3⟩, ⟨%e4, H4⟩, ⟨%e5, H5⟩, ⟨%fT0, HS0⟩⟩
  isplitl [HR0 HR1 HR2 HR3 HS0 Hg]
  · isplitl [HR0 HR1 HR2 HR3 HS0]
    · isplitl [HR0]
      · iexact HR0
      isplitl [HR1]
      · iexact HR1
      isplitl [HR2]
      · iexact HR2
      isplitl [HR3]
      · iexact HR3
      iexists _; unfold owns; iexists _; isplitr
      swap; · iexact HS0
      ipureintro; rfl
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _ _ _ _ _ _ _)
  isplitl [H3]
  · unfold owns; iexists _; isplitr
    swap; · iexact H3
    ipureintro; exact View.read_writes_of_cover _ _ _ _ _ (cover1_A_3 c _ _ _ _ _ _ _ _ _ _ _ _ _ _ _ _ _)
  isplitl [H4]
  · unfold owns; iexists _; isplitr
    swap; · iexact H4
    ipureintro; exact View.read_writes_of_cover _ _ _ _ _ (cover1_A_4 c _ _ _ _ _ _ _ _ _ _ _ _ _ _ _ _ _)
  unfold owns; iexists _; isplitr
  swap; · iexact H5
  ipureintro; exact View.read_writes_of_cover _ _ _ _ _ (cover1_A_5 c _ _ _ _ _ _ _ _ _ _ _ _ _ _ _ _ _)

/-- The body table's row at point `t`'s slots is the body as `bodyAt1` spells it. -/
theorem defs₀_row1 (t : Fin (cfg1 (F := F)).N) :
    defs₀ (F := F) .tc (cfg1 (F := F)).body ((cfg1 (F := F)).bodyArgs t ((cfg1 (F := F)).slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.nat () Set.univ := fun t => by
  rw [bigSep_W1, bigSep_W1, defs₀_row1]
  exact triple_restated (sound_body1 V c t) rfl .rfl fun _ => .rfl

end Regions

end Cert.KernelIdeal.Hand

end
-- ==== Proof.KI.Run.lean ====
/- The whole program: its segments, the contents of the buffers between them, and the launch. -/
module

public import proofs.«01_k».proof.Proof.KI.Body0
public import proofs.«01_k».proof.Proof.KI.Body1

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch (Lib/StableHlo/Run.lean
    `after_of_writes_sub`) -/

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2, main_v3, main_values, main_indices, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7, main_v8, main_v9, main_c, main_v10, main_v11, main_v12]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w (cfg0 (F := F)).N
theorem W1_arr (c : Dev nD) (w : Fin (cfg0 (F := F)).W) :
    W1 m ρ c (Proc.devRef .tc (Pipeline.arrRef spec0 w)) = (dat0 (V0 m ρ) c).arrAt w (cfg0 (F := F)).N := by
  unfold W1; exact Pipeline.withArrays_arr spec0 (launch0 (F := F)).win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin (cfg0 (F := F)).W, Pipeline.arrRef spec0 w = r → ((cfg0 (F := F)).win w).isOut = false) :
    W1 m ρ c (Proc.devRef .tc r) = W0 m ρ c (Proc.devRef .tc r) := by
  by_cases hw : ∃ w : Fin (cfg0 (F := F)).W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin (cfg0 (F := F)).W, Pipeline.arrRef spec0 w = a → ((cfg0 (F := F)).win w).isOut = false :=
  ListAll.forall_mem_of_all_decide (show (argRefs.all fun a => decide (∀ w : Fin 2, Pipeline.arrRef spec0 w = a → (spec0 w).isOut = false)) = true by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin (cfg0 (F := F)).W) : (dat0 (V0 m ρ) c).arrAt w (cfg0 (F := F)).N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1` (region 1's entry). -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- The same read at the TensorCore's references (what region 1's proof data take). -/
abbrev V2 : (c : Dev nD) → (b : Ref sig .tc) → Buf (Elt F) ((c : Thread nD τ).loc b) := fun c b => W2 m ρ c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w (cfg1 (F := F)).N
theorem W3_arr (c : Dev nD) (w : Fin (cfg1 (F := F)).W) :
    W3 m ρ c (Proc.devRef .tc (Pipeline.arrRef spec1 w)) = (dat1 (V2 m ρ) c).arrAt w (cfg1 (F := F)).N := by
  unfold W3; exact Pipeline.withArrays_arr spec1 (launch1 (F := F)).win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin (cfg1 (F := F)).W, Pipeline.arrRef spec1 w = r → ((cfg1 (F := F)).win w).isOut = false) :
    W3 m ρ c (Proc.devRef .tc r) = W2 m ρ c (Proc.devRef .tc r) := by
  by_cases hw : ∃ w : Fin (cfg1 (F := F)).W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin (cfg1 (F := F)).W, Pipeline.arrRef spec1 w = a → ((cfg1 (F := F)).win w).isOut = false :=
  ListAll.forall_mem_of_all_decide (show (argRefs.all fun a => decide (∀ w : Fin 6, Pipeline.arrRef spec1 w = a → (spec1 w).isOut = false)) = true by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin (cfg1 (F := F)).W) : (dat1 (V2 m ρ) c).arrAt w (cfg1 (F := F)).N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)

/-! ## The proof data family and the thread state -/

/-- The prefetched tables' admissible contents: no pipeline has a table. -/
abbrev adm : (p : Fin 2) → (pcfgs (F := F) p).Adm := fun p => ((cfgs (F := F)) p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.nat
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V0 m ρ c) (V1 m ρ c) ((pdats m ρ 0 c).arrAt · (cfg0 (F := F)).N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V2 m ρ c) (V3 m ρ c) ((pdats m ρ 1 c).arrAt · (cfg1 (F := F)).N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The launch: every weakly fair execution of @main on the TensorCores terminates, nothing faulting, and in every final
    state each unscoped buffer holds what the fold through @main says (`W4`) and every semaphore counter is zero: the
    kit's launch over the segments, the last thread state read against the final state (`pointsTo_read_all`); the kit
    shows every counter at zero except the TensorCores' unscoped ones, of which there are none. -/
theorem ends : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (cfgs (F := F)) cellOf_inj) (Pipeline.launchToks (cfgs (F := F)) cellOf_inj))
    (hu₀ := by
      iintro Hu; imodintro
      isplitl [Hu]
      · iapply (show (ownU (initOf (Pipeline.cells (cfgs (F := F)) cellOf_inj) (Pipeline.launchToks (cfgs (F := F)) cellOf_inj)) : sProp 𝕄)
            ⊢ BI.own (emb₁ (initOf (Pipeline.cells (cfgs (F := F)) cellOf_inj) (Pipeline.launchToks (cfgs (F := F)) cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c)⟩, h.2⟩) (ends m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h => h.1) (frame m ρ)

end Cert.KernelIdeal.Hand

end
-- ==== Proof.Val.Nms.lean ====
/- The second call's body in a uniform form: the gathered rows, the adjacency blocks and the four results as
   functions of the two input blocks. -/
module

public import proofs.«01_k».proof.Proof.KI.Body1
public import Idealize.ShloMosaic.Lib.Pipeline.Value
public import Idealize.ShloMosaic.Lib.Pipeline.ValueKit

@[expose] public section

set_option maxRecDepth 16384

noncomputable section

namespace Cert.KernelIdeal.Val

open Cert.KernelIdeal.Gen Cert.KernelIdeal.Hand
open Idealize.ShloMosaic Idealize.ShloMosaic.TcCoe Idealize.ShloMosaic.Tactic

variable {F : FTy → Type} [FloatOps F]

/-- One chunk's step of the gather: the lanes whose chunk number is `c` take chunk `c`'s element at their lane. -/
def step (hi : IVec S1x128 32) (lane : IVec S8x128 32) (c : ℕ) (v : Vec F S1x1x8x128 .f32) (acc : FVec F S8x128 .f32) : FVec F S8x128 .f32 :=
  select (broadcastTo S8x128 (shapeCast S1x128 (cmpi .eq hi (broadcast S1x128 (BitVec.ofNat 32 c))) shapeCasts_S1x128_S1x128) broadcasts_S1x128_S8x128)
    (dynamicGather 1 (shapeCast S8x128 v shapeCasts_S1x1x8x128_S8x128)
      (shapeCast S8x128 (shapeCast S8x128x1 (select (cmpi .slt lane (broadcast S8x128 0#32)) (addi lane (broadcast S8x128 128#32)) lane)
        shapeCasts_S8x128_S8x128x1) shapeCasts_S8x128x1_S8x128)) acc

/-- The chunk `c` of the packed block as the body loads it. -/
def chunk (x0 : Vec F S1x66x8x128 .f32) (c : ℕ) (hc : c < 66) : Vec F S1x1x8x128 .f32 :=
  View.ld x0 (Rect.unit (s := S1x66x8x128) ![0, c, 0, 0] S1x1x8x128.size (by intro a; fin_cases a <;> simp <;> omega))

/-- The tile gathered after the first `n` chunks. -/
def gath (hi : IVec S1x128 32) (lane : IVec S8x128 32) (x0 : Vec F S1x66x8x128 .f32) : (n : ℕ) → n ≤ 66 → FVec F S8x128 .f32
  | 0, _ => broadcast S8x128 (Scalar.ofBits .f32 0x00000000#32)
  | n + 1, h => step hi lane n (chunk x0 n h) (gath hi lane x0 n (Nat.le_of_succ_le h))

/-- Tile `t` of the gathered candidates. -/
def tileG (x0 : Vec F S1x66x8x128 .f32) (x1 : Vec F S1x8x128 .i32) (t : ℕ) (ht : t < 8) : FVec F S8x128 .f32 :=
  let o : Vec F S1x1x128 .i32 := View.ld x1 (Rect.unit (s := S1x8x128) ![0, t, 0] S1x1x128.size (by intro a; fin_cases a <;> simp <;> omega))
  gath (k1_pay7 o) (k1_pay8 o) x0 66 (le_refl _)

/-- The gathered candidates: eight rows of 1024. -/
def rows (x0 : Vec F S1x66x8x128 .f32) (x1 : Vec F S1x8x128 .i32) : FVec F S8x1024 .f32 :=
  concatenate S8x1024 1 [⟨S8x128, tileG x0 x1 0 (by decide)⟩, ⟨S8x128, tileG x0 x1 1 (by decide)⟩, ⟨S8x128, tileG x0 x1 2 (by decide)⟩,
    ⟨S8x128, tileG x0 x1 3 (by decide)⟩, ⟨S8x128, tileG x0 x1 4 (by decide)⟩, ⟨S8x128, tileG x0 x1 5 (by decide)⟩,
    ⟨S8x128, tileG x0 x1 6 (by decide)⟩, ⟨S8x128, tileG x0 x1 7 (by decide)⟩]
    concatenates_S8x128_S8x128_S8x128_S8x128_S8x128_S8x128_S8x128_S8x128_S8x1024_d1

/-- The 8×8 identity matrix, and the gathered candidates turned on their side with it. -/
def turned (G : FVec F S8x1024 .f32) : FVec F S1024x8 .f32 :=
  matmul dot_S8x1024_S8x8_S1024x8_0_0_1_1_n_n (some .fp32) G
    (select (cmpi .eq (iota .tc S8x8 32 [0] iota_S8x8_d0_w32) (iota .tc S8x8 32 [1] iota_S8x8_d1_w32))
      (broadcast S8x8 (Scalar.ofBits .f32 0x3F800000#32)) (broadcast S8x8 (Scalar.ofBits .f32 0x00000000#32)))
    (constant S1024x8 .f32 0x00000000#32)

/-- Row `a` of the gathered candidates. -/
def row (G : FVec F S8x1024 .f32) (a : ℕ) (h : S8x1024.Slices ![a, 0] S1x1024) : FVec F S1x1024 .f32 :=
  extractStridedSlice S1x1024 ![a, 0] G h

/-- The candidates' areas, as a row. -/
def areas (G : FVec F S8x1024 .f32) : FVec F S1x1024 .f32 :=
  mulf (subf (row G 2 slices_S8x1024_o2_0_S1x1024) (row G 0 slices_S8x1024_o0_0_S1x1024))
    (subf (row G 3 slices_S8x1024_o3_0_S1x1024) (row G 1 slices_S8x1024_o1_0_S1x1024))

/-- The 64 rows of the adjacency from row `s` on. -/
def band (G : FVec F S8x1024 .f32) (s : ℕ) (h0 : S1024x8.Slices ![s, 0] S64x1) (h1 : S1024x8.Slices ![s, 1] S64x1)
    (h2 : S1024x8.Slices ![s, 2] S64x1) (h3 : S1024x8.Slices ![s, 3] S64x1) : FVec F S64x1024 .bf16 :=
  let x1c := extractStridedSlice S64x1 ![s, 0] (turned G) h0
  let y1c := extractStridedSlice S64x1 ![s, 1] (turned G) h1
  let x2c := extractStridedSlice S64x1 ![s, 2] (turned G) h2
  let y2c := extractStridedSlice S64x1 ![s, 3] (turned G) h3
  let w := maximumf (subf (minimumf (broadcastTo S64x1024 x2c broadcasts_S64x1_S64x1024) (broadcastTo S64x1024 (row G 2 slices_S8x1024_o2_0_S1x1024) broadcasts_S1x1024_S64x1024))
      (maximumf (broadcastTo S64x1024 x1c broadcasts_S64x1_S64x1024) (broadcastTo S64x1024 (row G 0 slices_S8x1024_o0_0_S1x1024) broadcasts_S1x1024_S64x1024)))
    (broadcast S64x1024 (Scalar.ofBits .f32 0x00000000#32))
  let h := maximumf (subf (minimumf (broadcastTo S64x1024 y2c broadcasts_S64x1_S64x1024) (broadcastTo S64x1024 (row G 3 slices_S8x1024_o3_0_S1x1024) broadcasts_S1x1024_S64x1024))
      (maximumf (broadcastTo S64x1024 y1c broadcasts_S64x1_S64x1024) (broadcastTo S64x1024 (row G 1 slices_S8x1024_o1_0_S1x1024) broadcasts_S1x1024_S64x1024)))
    (broadcast S64x1024 (Scalar.ofBits .f32 0x00000000#32))
  let inter := mulf w h
  let den := addf (subf (addf (broadcastTo S64x1024 (mulf (subf x2c x1c) (subf y2c y1c)) broadcasts_S64x1_S64x1024)
    (broadcastTo S64x1024 (areas G) broadcasts_S1x1024_S64x1024)) inter) (broadcast S64x1024 (Scalar.ofBits .f32 0x3089705F#32))
  let adj := andi (cmpf .ogt (divf inter den) (broadcast S64x1024 (Scalar.ofBits .f32 0x3EE66666#32)))
    (cmpi .sgt (iota .tc S64x1024 32 [1] iota_S64x1024_d1_w32)
      (addi (broadcast S64x1024 (BitVec.ofNat 32 s)) (iota .tc S64x1024 32 [0] iota_S64x1024_d0_w32)))
  shapeCast S64x1024 (truncf .bf16 (select adj (broadcast S64x1024 (Scalar.ofBits .f32 0x3F800000#32)) (broadcast S64x1024 (Scalar.ofBits .f32 0x00000000#32))) bitsLt_bf16_f32)
    shapeCasts_S64x1024_S64x1024

theorem slicesAt (r : Fin 16) (k : ℕ) (hk : k < 8) : S1024x8.Slices ![64 * r.val, k] S64x1 := by
  refine ⟨rfl, fun a => ?_⟩
  have := r.isLt
  match a with
  | ⟨0, _⟩ => show 64 * r.val + 64 ≤ 1024; omega
  | ⟨1, _⟩ => show k + 1 ≤ 8; omega

/-- The `r`-th store into the adjacency scratch. -/
def bandPiece (G : FVec F S8x1024 .f32) (r : Fin 16) : View.Piece (Elt F) S1024x1024 .bf16 :=
  ⟨Rect.unit (s := S1024x1024) ![64 * r.val, 0] S64x1024.size (by intro a; have := r.isLt; fin_cases a <;> simp <;> omega),
    band G (64 * r.val) (slicesAt r 0 (by decide)) (slicesAt r 1 (by decide)) (slicesAt r 2 (by decide)) (slicesAt r 3 (by decide))⟩

/-- The adjacency as the body leaves it in its scratch. -/
def adjOf (G : FVec F S8x1024 .f32) : Vec F S1024x1024 .bf16 := View.canon ((List.finRange 16).reverse.map (bandPiece G))

/-- The mask the body computes: kept by the loop and above the confidence threshold. -/
def maskOf (G : FVec F S8x1024 .f32) : IVec S1x1024 1 :=
  k1_pay626 (row G 4 slices_S8x1024_o4_0_S1x1024) (loopEnd (adjOf G)).1

/-- The four results of a grid point, from its gathered candidates. -/
def resXY (G : FVec F S8x1024 .f32) : FVec F S1x4x1024 .f32 :=
  k1_pay631 (maskOf G) (k1_pay627 (row G 0 slices_S8x1024_o0_0_S1x1024) (row G 4 slices_S8x1024_o4_0_S1x1024) (loopEnd (adjOf G)).1)
    (k1_pay628 (row G 1 slices_S8x1024_o1_0_S1x1024) (row G 4 slices_S8x1024_o4_0_S1x1024) (loopEnd (adjOf G)).1)
    (k1_pay629 (row G 2 slices_S8x1024_o2_0_S1x1024) (row G 4 slices_S8x1024_o4_0_S1x1024) (loopEnd (adjOf G)).1)
    (k1_pay630 (row G 3 slices_S8x1024_o3_0_S1x1024))
def resConf (G : FVec F S8x1024 .f32) : FVec F S1x1x1024 .f32 := k1_pay632 (row G 4 slices_S8x1024_o4_0_S1x1024) (maskOf G)
def resCls (G : FVec F S8x1024 .f32) : IVec S1x1x1024 32 := k1_pay1 (k1_pay633 (row G 5 slices_S8x1024_o5_0_S1x1024) (maskOf G))
def resKeep (G : FVec F S8x1024 .f32) : IVec S1x1x1024 32 := k1_pay2 (maskOf G)

section
variable (c : Dev nD) (arg1 : Memref sig .tc .vmem S1x66x8x128 .f32) (harg1 : arg1.IsWhole) (arg2 : Memref sig .tc .vmem S1x8x128 .i32) (harg2 : arg2.IsWhole)
  (x0 : Vec F S1x66x8x128 .f32) (x1 : Vec F S1x8x128 .i32)

local notation "X0" => View.read (Elt F) (Memref.view arg1) (Memref.IsWhole.unread harg1 x0)
local notation "X1" => View.read (Elt F) (Memref.view arg2) (Memref.IsWhole.unread harg2 x1)

theorem r3_eq : kernelRun1_A.sl.r_3 c arg1 harg1 arg2 harg2 x0 x1 = tileG X0 X1 0 (by decide) := rfl
theorem r42_eq : kernelRun1_A.sl.r_42 c arg1 harg1 arg2 harg2 x0 x1 = row (rows X0 X1) 0 slices_S8x1024_o0_0_S1x1024 := rfl
theorem r43_eq : kernelRun1_A.sl.r_43 c arg1 harg1 arg2 harg2 x0 x1 = row (rows X0 X1) 1 slices_S8x1024_o1_0_S1x1024 := rfl
theorem r44_eq : kernelRun1_A.sl.r_44 c arg1 harg1 arg2 harg2 x0 x1 = row (rows X0 X1) 2 slices_S8x1024_o2_0_S1x1024 := rfl
theorem r45_eq : kernelRun1_A.sl.r_45 c arg1 harg1 arg2 harg2 x0 x1 = row (rows X0 X1) 3 slices_S8x1024_o3_0_S1x1024 := rfl
theorem r46_eq : kernelRun1_A.sl.r_46 c arg1 harg1 arg2 harg2 x0 x1 = row (rows X0 X1) 4 slices_S8x1024_o4_0_S1x1024 := rfl
theorem r47_eq : kernelRun1_A.sl.r_47 c arg1 harg1 arg2 harg2 x0 x1 = row (rows X0 X1) 5 slices_S8x1024_o5_0_S1x1024 := rfl
theorem r48_eq : kernelRun1_A.sl.r_48 c arg1 harg1 arg2 harg2 x0 x1 = areas (rows X0 X1) := rfl
theorem r49_eq : kernelRun1_A.sl.r_49 c arg1 harg1 arg2 harg2 x0 x1 = turned (rows X0 X1) := rfl

theorem r115_eq : kernelRun1_A.sl.r_115 c arg1 harg1 arg2 harg2 x0 x1 = maskOf (rows X0 X1) := by
  unfold kernelRun1_A.sl.r_115 maskOf adjOf
  rw [r46_eq]
  refine congrArg (fun L => k1_pay626 _ (loopEnd (View.canon L)).1) ?_
  rfl

theorem r116_eq : kernelRun1_A.sl.r_116 c arg1 harg1 arg2 harg2 x0 x1
    = k1_pay627 (row (rows X0 X1) 0 slices_S8x1024_o0_0_S1x1024) (row (rows X0 X1) 4 slices_S8x1024_o4_0_S1x1024) (loopEnd (adjOf (rows X0 X1))).1 := by
  unfold kernelRun1_A.sl.r_116 adjOf
  rw [r46_eq, r42_eq]
  refine congrArg (fun L => k1_pay627 _ _ (loopEnd (View.canon L)).1) ?_
  rfl
theorem r117_eq : kernelRun1_A.sl.r_117 c arg1 harg1 arg2 harg2 x0 x1
    = k1_pay628 (row (rows X0 X1) 1 slices_S8x1024_o1_0_S1x1024) (row (rows X0 X1) 4 slices_S8x1024_o4_0_S1x1024) (loopEnd (adjOf (rows X0 X1))).1 := by
  unfold kernelRun1_A.sl.r_117 adjOf
  rw [r46_eq, r43_eq]
  refine congrArg (fun L => k1_pay628 _ _ (loopEnd (View.canon L)).1) ?_
  rfl
theorem r118_eq : kernelRun1_A.sl.r_118 c arg1 harg1 arg2 harg2 x0 x1
    = k1_pay629 (row (rows X0 X1) 2 slices_S8x1024_o2_0_S1x1024) (row (rows X0 X1) 4 slices_S8x1024_o4_0_S1x1024) (loopEnd (adjOf (rows X0 X1))).1 := by
  unfold kernelRun1_A.sl.r_118 adjOf
  rw [r46_eq, r44_eq]
  refine congrArg (fun L => k1_pay629 _ _ (loopEnd (View.canon L)).1) ?_
  rfl
theorem r119_eq : kernelRun1_A.sl.r_119 c arg1 harg1 arg2 harg2 x0 x1 = k1_pay630 (row (rows X0 X1) 3 slices_S8x1024_o3_0_S1x1024) := by
  unfold kernelRun1_A.sl.r_119
  rw [r45_eq]

variable (i : grid1.Coords) (arg3 : Memref sig .tc .vmem S1x4x1024 .f32) (harg3 : arg3.IsWhole) (arg4 : Memref sig .tc .vmem S1x1x1024 .f32) (harg4 : arg4.IsWhole) (arg5 : Memref sig .tc .vmem S1x1x1024 .i32) (harg5 : arg5.IsWhole) (arg6 : Memref sig .tc .vmem S1x1x1024 .i32) (harg6 : arg6.IsWhole) (arg7 : Memref sig .tc .vmem S1024x1024 .bf16) (harg7 : arg7.IsWhole)
/-- The four outputs of the second call's body. -/
theorem out2_eq : out1_A_2 c i arg1 harg1 arg2 harg2 arg3 harg3 arg4 harg4 arg5 harg5 arg6 harg6 arg7 harg7 x0 x1 = resXY (rows x0 x1) := by
  unfold out1_A_2
  rw [View.read_writes_eq_canon _ _ _ (cover1_A_2 c i arg1 harg1 arg2 harg2 arg3 harg3 arg4 harg4 arg5 harg5 arg6 harg6 arg7 harg7 x0 x1)]
  refine (View.canon_unit_zero (S := S1x4x1024) (by funext a; fin_cases a <;> rfl) _ _).trans ?_
  unfold resXY
  rw [r115_eq, r116_eq, r117_eq, r118_eq, r119_eq, harg1.read_unread, harg2.read_unread]
theorem out3_eq : out1_A_3 c i arg1 harg1 arg2 harg2 arg3 harg3 arg4 harg4 arg5 harg5 arg6 harg6 arg7 harg7 x0 x1 = resConf (rows x0 x1) := by
  unfold out1_A_3
  rw [View.read_writes_eq_canon _ _ _ (cover1_A_3 c i arg1 harg1 arg2 harg2 arg3 harg3 arg4 harg4 arg5 harg5 arg6 harg6 arg7 harg7 x0 x1)]
  refine (View.canon_unit_zero (S := S1x1x1024) (by funext a; fin_cases a <;> rfl) _ _).trans ?_
  unfold resConf
  rw [r115_eq, r46_eq, harg1.read_unread, harg2.read_unread]
theorem out4_eq : out1_A_4 c i arg1 harg1 arg2 harg2 arg3 harg3 arg4 harg4 arg5 harg5 arg6 harg6 arg7 harg7 x0 x1 = resCls (rows x0 x1) := by
  unfold out1_A_4
  rw [View.read_writes_eq_canon _ _ _ (cover1_A_4 c i arg1 harg1 arg2 harg2 arg3 harg3 arg4 harg4 arg5 harg5 arg6 harg6 arg7 harg7 x0 x1)]
  refine (View.canon_unit_zero (S := S1x1x1024) (by funext a; fin_cases a <;> rfl) _ _).trans ?_
  unfold resCls kernelRun1_A.sl.r_120
  rw [r115_eq, r47_eq, harg1.read_unread, harg2.read_unread]
theorem out5_eq : out1_A_5 c i arg1 harg1 arg2 harg2 arg3 harg3 arg4 harg4 arg5 harg5 arg6 harg6 arg7 harg7 x0 x1 = resKeep (rows x0 x1) := by
  unfold out1_A_5
  rw [View.read_writes_eq_canon _ _ _ (cover1_A_5 c i arg1 harg1 arg2 harg2 arg3 harg3 arg4 harg4 arg5 harg5 arg6 harg6 arg7 harg7 x0 x1)]
  refine (View.canon_unit_zero (S := S1x1x1024) (by funext a; fin_cases a <;> rfl) _ _).trans ?_
  unfold resKeep
  rw [r115_eq, harg1.read_unread, harg2.read_unread]
end

end Cert.KernelIdeal.Val
-- ==== Proof.Val.Greedy.lean ====
/- Greedy suppression on 1024 candidates, as the fixpoint of a sweep and as a walk in order. -/
module

public import Idealize.ShloMosaic.PureOps.Ideal.Laws

@[expose] public section

namespace Cert.Greedy

/-- One sweep: a candidate stays where no earlier-suppressing candidate of `K` is against it. -/
def sweepP (A : Fin 1024 → Fin 1024 → Prop) (K : Fin 1024 → Prop) (j : Fin 1024) : Prop := ¬ ∃ i, K i ∧ A i j

/-- The two masks agree on the first `n` candidates. -/
def AgreeTo (n : ℕ) (K L : Fin 1024 → Prop) : Prop := ∀ i : Fin 1024, i.val < n → (K i ↔ L i)

/-- What greedy suppression keeps. -/
def greedy (A : Fin 1024 → Fin 1024 → Prop) : Fin 1024 → Prop := (sweepP A)^[1024] (fun _ => True)

variable {A : Fin 1024 → Fin 1024 → Prop} (hA : ∀ i j, A i j → i < j)
include hA

theorem agree_sweep {n : ℕ} {K L : Fin 1024 → Prop} (h : AgreeTo n K L) : AgreeTo (n + 1) (sweepP A K) (sweepP A L) := by
  intro j hj
  unfold sweepP
  refine not_congr (exists_congr fun i => ?_)
  constructor
  · rintro ⟨h1, h2⟩; have := hA i j h2; exact ⟨(h i (by have : i.val < j.val := this; omega)).1 h1, h2⟩
  · rintro ⟨h1, h2⟩; have := hA i j h2; exact ⟨(h i (by have : i.val < j.val := this; omega)).2 h1, h2⟩

theorem agree_iterate (K L : Fin 1024 → Prop) : ∀ n, AgreeTo n ((sweepP A)^[n] K) ((sweepP A)^[n] L)
  | 0 => fun i hi => absurd hi (Nat.not_lt_zero _)
  | n + 1 => by
    rw [Function.iterate_succ_apply', Function.iterate_succ_apply']
    exact agree_sweep hA (agree_iterate K L n)

omit hA in
theorem eq_of_agree {n : ℕ} (hn : 1024 ≤ n) {K L : Fin 1024 → Prop} (h : AgreeTo n K L) : K = L :=
  funext fun i => propext (h i (by omega))

theorem greedy_fix : sweepP A (greedy A) = greedy A := by
  have e : sweepP A (greedy A) = (sweepP A)^[1024] (sweepP A fun _ => True) :=
    (Function.iterate_succ_apply' (sweepP A) 1024 _).symm.trans (Function.iterate_succ_apply (sweepP A) 1024 _)
  rw [e]
  exact eq_of_agree (le_refl _) (agree_iterate hA _ _ 1024)

/-- A mask that a sweep leaves alone is the greedy one. -/
theorem greedy_unique {K : Fin 1024 → Prop} (h : sweepP A K = K) : K = greedy A := by
  have h2 : (sweepP A)^[1024] K = K := Function.iterate_fixed h 1024
  rw [← h2]; exact eq_of_agree (le_refl _) (agree_iterate hA _ _ 1024)

theorem agree_greedy_sweep {n : ℕ} {K : Fin 1024 → Prop} (h : AgreeTo n K (greedy A)) : AgreeTo (n + 1) (sweepP A K) (greedy A) := by
  have := agree_sweep hA h; rwa [greedy_fix hA] at this

/-- The walk: candidate `t`, where still kept, removes those after it that it is against. -/
def walk (A : Fin 1024 → Fin 1024 → Prop) : ℕ → Fin 1024 → Prop
  | 0 => fun _ => True
  | t + 1 => fun j => if h : t < 1024 then (walk A t ⟨t, h⟩ → ¬ A ⟨t, h⟩ j) ∧ walk A t j else walk A t j

theorem walk_iff : ∀ t, t ≤ 1024 → ∀ j, walk A t j ↔ ¬ ∃ i : Fin 1024, i.val < t ∧ greedy A i ∧ A i j := by
  intro t
  induction t with
  | zero => intro _ j; simp [walk]
  | succ t ih =>
    intro ht j
    have ht' : t < 1024 := ht
    have ih' := ih ht'.le
    have hg : walk A t ⟨t, ht'⟩ ↔ greedy A ⟨t, ht'⟩ := by
      rw [ih', ← congrFun (greedy_fix hA) ⟨t, ht'⟩]
      unfold sweepP
      refine not_congr (exists_congr fun i => ?_)
      constructor
      · rintro ⟨_, h⟩; exact h
      · rintro ⟨h1, h2⟩; exact ⟨hA _ _ h2, h1, h2⟩
    simp only [walk, ht', dif_pos, hg, ih']
    constructor
    · rintro ⟨h1, h2⟩ ⟨i, hi, hgi, hAi⟩
      rcases Nat.lt_succ_iff_lt_or_eq.mp hi with h | h
      · exact h2 ⟨i, h, hgi, hAi⟩
      · obtain rfl : i = ⟨t, ht'⟩ := Fin.ext h
        exact h1 hgi hAi
    · intro h
      exact ⟨fun h1 h2 => h ⟨⟨t, ht'⟩, Nat.lt_succ_self _, h1, h2⟩, fun ⟨i, hi, h3⟩ => h ⟨i, Nat.lt_succ_of_lt hi, h3⟩⟩

theorem walk_greedy (j : Fin 1024) : walk A 1024 j ↔ greedy A j := by
  rw [walk_iff hA 1024 (le_refl _), ← congrFun (greedy_fix hA) j]
  unfold sweepP
  exact not_congr (exists_congr fun i => ⟨fun h => h.2, fun h => ⟨i.isLt, h⟩⟩)

end Cert.Greedy
-- ==== Proof.Val.NmsAt.lean ====
/- The second call's gather and adjacency, element by element. -/
module

public import proofs.«01_k».proof.Proof.Val.Nms
public import proofs.«01_k».proof.Proof.Val.Greedy
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Val

open Cert.KernelIdeal.Gen Cert.KernelIdeal.Hand
open Idealize.ShloMosaic Idealize.ShloMosaic.TcCoe Idealize.ShloMosaic.Tactic

theorem chunk_at (x0 : Vec Ideal S1x66x8x128 .f32) (c : ℕ) (hc : c < 66) (r : Fin 8) (l : Fin 128) :
    chunk x0 c hc (ix4 0 0 r l) = x0 (ix4 0 ⟨c, hc⟩ r l) := by
  unfold chunk View.ld
  congr 1; funext a; apply Fin.ext
  fin_cases a <;> simp [Rect.emb, LoadRect.idx, Rect.unit, ix4] <;> rfl

/-- A lane number below 128 is not negative, so the wrap of negative lane numbers leaves it. -/
theorem lane_wrap (w : BitVec 32) (h : w.toNat < 128) :
    (Scalar.select (IntOp.cmpi CmpIPredicate.slt w 0#32) (IntOp.addi w 128#32) w).toNat % 128 = w.toNat := by
  have h2 : IntOp.cmpi CmpIPredicate.slt w 0#32 = 0#1 := by
    have : w.slt 0#32 = false := by
      simp only [BitVec.slt, decide_eq_false_iff_not, BitVec.toInt_eq_toNat_cond]; simp; omega
    simp [IntOp.cmpi, this]
  rw [h2]
  show w.toNat % 128 = _
  omega

theorem cmpi_eq_ofBool {w : ℕ} (a b : BitVec w) : IntOp.cmpi CmpIPredicate.eq a b = BitVec.ofBool (decide (a = b)) := by
  simp only [IntOp.cmpi]; congr 1

theorem step_at (hi : IVec S1x128 32) (lane : IVec S8x128 32) (c : ℕ) (hc : c < 66) (v : Vec Ideal S1x1x8x128 .f32) (acc : FVec Ideal S8x128 .f32)
    (r : Fin 8) (l : Fin 128) (hl : (lane (ix2 r l)).toNat < 128) :
    step hi lane c v acc (ix2 r l) = if (hi (ix2 0 l)).toNat = c then v (ix4 0 0 r ⟨(lane (ix2 r l)).toNat, hl⟩) else acc (ix2 r l) := by
  unfold step
  pointwise
  have e : (⟨(Scalar.select (IntOp.cmpi CmpIPredicate.slt (lane (ix2 r l)) 0#32) (IntOp.addi (lane (ix2 r l)) 128#32) (lane (ix2 r l))).toNat % 128,
      Nat.mod_lt _ (by decide)⟩ : Fin 128) = ⟨(lane (ix2 r l)).toNat, hl⟩ := Fin.ext (lane_wrap _ hl)
  rw [e]
  by_cases h : (hi (ix2 0 l)).toNat = c
  · have : hi (ix2 0 l) = BitVec.ofNat 32 c := by
      apply BitVec.eq_of_toNat_eq; simp; omega
    simp [this, IntOp.cmpi, Scalar.select]
    intro h3; omega
  · have : ¬ hi (ix2 0 l) = BitVec.ofNat 32 c := by
      intro h2; apply h; rw [h2]; simp; omega
    simp only [cmpi_eq_ofBool, this, h, Scalar.select, decide_false, if_false]; simp

theorem gath_at (hi : IVec S1x128 32) (lane : IVec S8x128 32) (x0 : Vec Ideal S1x66x8x128 .f32) (r : Fin 8) (l : Fin 128)
    (hl : (lane (ix2 r l)).toNat < 128) (hh : (hi (ix2 0 l)).toNat < 66) : ∀ (n : ℕ) (hn : n ≤ 66),
    gath hi lane x0 n hn (ix2 r l) = if (hi (ix2 0 l)).toNat < n then x0 (ix4 0 ⟨(hi (ix2 0 l)).toNat, hh⟩ r ⟨(lane (ix2 r l)).toNat, hl⟩) else Scalar.ofBits (F := Ideal) .f32 0x00000000#32
  | 0, _ => by simp [gath]; rfl
  | n + 1, hn => by
    rw [gath, step_at hi lane n hn _ _ r l hl, gath_at hi lane x0 r l hl hh n (Nat.le_of_succ_le hn)]
    by_cases h : (hi (ix2 0 l)).toNat = n
    · rw [if_pos h, if_pos (by omega), chunk_at]
      subst h; rfl
    · rw [if_neg h]
      by_cases h2 : (hi (ix2 0 l)).toNat < n
      · rw [if_pos h2, if_pos (by omega)]
      · rw [if_neg h2, if_neg (by omega)]

theorem turned_at (G : FVec Ideal S8x1024 .f32) (j : Fin 1024) (k : Fin 8) : turned G (ix2 j k) = G (ix2 k j) := by
  unfold turned
  pointwise
  rw [Finset.sum_eq_single k]
  · simp [IntOp.cmpi, Scalar.select]
  · intro b _ hb
    have : ¬ BitVec.ofNat 32 b.val = BitVec.ofNat 32 k.val := by
      intro h; apply hb; apply Fin.ext
      have := congrArg BitVec.toNat h
      have := b.isLt; have := k.isLt
      simp at *; omega
    simp only [cmpi_eq_ofBool, this, Scalar.select, decide_false]; simp
  · simp

/-- Whether the box `q` overlaps the box `p` by more than the threshold (corners as `x1, y1, x2, y2`). -/
def over (p q : Fin 4 → EReal) : Prop :=
  let inter := max (min (p 2) (q 2) - max (p 0) (q 0)) 0 * max (min (p 3) (q 3) - max (p 1) (q 1)) 0
  Ideal.ofBits FTy.f32 0x3EE66666#32 < Ideal.div inter ((p 2 - p 0) * (p 3 - p 1) + (q 2 - q 0) * (q 3 - q 1) - inter + Ideal.ofBits FTy.f32 0x3089705F#32)

/-- Candidate `i` is against candidate `j`: `j` comes later and overlaps it too much. -/
def against (B : Fin 1024 → Fin 4 → EReal) (i j : Fin 1024) : Prop := i < j ∧ over (B i) (B j)

/-- The corners of the gathered candidates. -/
def boxesOf (G : FVec Ideal S8x1024 .f32) (j : Fin 1024) (k : Fin 4) : EReal := G (ix2 (k.castLE (by decide)) j)

theorem select_and (P Q : Prop) [Decidable P] [Decidable Q] (a b : EReal) :
    Scalar.select (IntOp.andi (BitVec.ofBool (decide P)) (BitVec.ofBool (decide Q))) a b = if Q ∧ P then a else b := by
  by_cases hP : P <;> by_cases hQ : Q <;> simp [hP, hQ, IntOp.andi, Scalar.select]

open Classical in
set_option maxHeartbeats 2000000 in
theorem band_at (G : FVec Ideal S8x1024 .f32) (s : ℕ) (hs : s + 64 ≤ 1024) (h0 : S1024x8.Slices ![s, 0] S64x1) (h1 : S1024x8.Slices ![s, 1] S64x1)
    (h2 : S1024x8.Slices ![s, 2] S64x1) (h3 : S1024x8.Slices ![s, 3] S64x1) (i : Fin 64) (j : Fin 1024) :
    band G s h0 h1 h2 h3 (ix2 i j) = if against (boxesOf G) ⟨s + i.val, by omega⟩ j then (1 : EReal) else 0 := by
  unfold band areas row
  pointwise
  simp only [turned_at]
  have e : IntOp.cmpi CmpIPredicate.sgt (BitVec.ofNat 32 ↑j) (IntOp.addi (BitVec.ofNat 32 s) (BitVec.ofNat 32 ↑i)) = BitVec.ofBool (decide (s + i.val < j.val)) := by
    have h1 : (BitVec.ofNat 32 j.val).toInt = j.val := by rw [BitVec.toInt_eq_toNat_cond]; simp; omega
    have h2 : (IntOp.addi (BitVec.ofNat 32 s) (BitVec.ofNat 32 i.val)).toInt = (s + i.val : ℕ) := by
      rw [BitVec.toInt_eq_toNat_cond]; simp [IntOp.addi]; omega
    show BitVec.ofBool ((IntOp.addi (BitVec.ofNat 32 s) (BitVec.ofNat 32 i.val)).slt (BitVec.ofNat 32 j.val)) = _
    rw [BitVec.slt, h1, h2]; norm_cast
  rw [e, select_and]
  exact if_congr Iff.rfl rfl rfl

/-- The word of candidate `j` in the ordered indices. -/
def wordAt (x1 : Vec Ideal S1x8x128 .i32) (j : Fin 1024) : ℕ :=
  (x1 (ix3 0 ⟨j.val / 128, by omega⟩ ⟨j.val % 128, Nat.mod_lt _ (by decide)⟩)).toNat

theorem tileG_at (x0 : Vec Ideal S1x66x8x128 .f32) (x1 : Vec Ideal S1x8x128 .i32) (t : ℕ) (ht : t < 8) (r : Fin 8) (l : Fin 128)
    (hw : (x1 (ix3 0 ⟨t, ht⟩ l)).toNat < 8448) :
    tileG x0 x1 t ht (ix2 r l) = x0 (ix4 0 ⟨(x1 (ix3 0 ⟨t, ht⟩ l)).toNat / 128, by omega⟩ r ⟨(x1 (ix3 0 ⟨t, ht⟩ l)).toNat % 128, Nat.mod_lt _ (by decide)⟩) := by
  have e1 : ∀ r l, k1_pay7 (F := Ideal) (View.ld x1 (Rect.unit (s := S1x8x128) ![0, t, 0] S1x1x128.size (by intro a; fin_cases a <;> simp <;> omega))) (ix2 r l)
      = IntOp.shrui .vector (x1 (ix3 0 ⟨t, ht⟩ l)) 7#32 := by
    intro r l
    unfold k1_pay7 k1_pay6
    pointwise
  have e2 : ∀ r l, k1_pay8 (F := Ideal) (View.ld x1 (Rect.unit (s := S1x8x128) ![0, t, 0] S1x1x128.size (by intro a; fin_cases a <;> simp <;> omega))) (ix2 r l)
      = IntOp.andi (x1 (ix3 0 ⟨t, ht⟩ l)) 127#32 := by
    intro r l
    unfold k1_pay8 k1_pay6
    pointwise
  have n1 : (k1_pay7 (F := Ideal) (View.ld x1 (Rect.unit (s := S1x8x128) ![0, t, 0] S1x1x128.size (by intro a; fin_cases a <;> simp <;> omega))) (ix2 0 l)).toNat = (x1 (ix3 0 ⟨t, ht⟩ l)).toNat / 128 := by
    rw [e1 0 l]; simp [IntOp.shrui, Nat.shiftRight_eq_div_pow]
  have n2 : (k1_pay8 (F := Ideal) (View.ld x1 (Rect.unit (s := S1x8x128) ![0, t, 0] S1x1x128.size (by intro a; fin_cases a <;> simp <;> omega))) (ix2 r l)).toNat = (x1 (ix3 0 ⟨t, ht⟩ l)).toNat % 128 := by
    rw [e2 r l]; simp only [IntOp.andi, BitVec.toNat_and]
    exact Nat.and_two_pow_sub_one_eq_mod _ 7
  unfold tileG
  simp only []
  rw [gath_at _ _ x0 r l (by rw [n2]; omega) (by rw [n1]; omega), if_pos (by rw [n1]; omega)]
  simp only [n1, n2]

theorem rows_at (x0 : Vec Ideal S1x66x8x128 .f32) (x1 : Vec Ideal S1x8x128 .i32) (r : Fin 8) (j : Fin 1024) (hw : wordAt x1 j < 8448) :
    rows x0 x1 (ix2 r j) = x0 (ix4 0 ⟨wordAt x1 j / 128, by omega⟩ r ⟨wordAt x1 j % 128, Nat.mod_lt _ (by decide)⟩) := by
  have key : ∀ (t : ℕ) (ht : t < 8) (l : ℕ) (hl : l < 128), j.val = 128 * t + l → tileG x0 x1 t ht (ix2 r ⟨l, hl⟩)
      = x0 (ix4 0 ⟨wordAt x1 j / 128, by omega⟩ r ⟨wordAt x1 j % 128, Nat.mod_lt _ (by decide)⟩) := by
    intro t ht l hl hj
    have e : wordAt x1 j = (x1 (ix3 0 ⟨t, ht⟩ ⟨l, hl⟩)).toNat := by
      unfold wordAt
      have a1 : (⟨j.val / 128, by omega⟩ : Fin 8) = ⟨t, ht⟩ := Fin.ext (by show j.val / 128 = t; omega)
      have a2 : (⟨j.val % 128, Nat.mod_lt _ (by decide)⟩ : Fin 128) = ⟨l, hl⟩ := Fin.ext (by show j.val % 128 = l; omega)
      rw [a1, a2]
    rw [tileG_at x0 x1 t ht r ⟨l, hl⟩ (by rw [← e]; exact hw)]
    simp only [e]
  unfold rows
  pointwise
  split_ifs <;> exact key _ _ _ _ (by omega)

open Classical in
theorem adjOf_at (G : FVec Ideal S8x1024 .f32) (i j : Fin 1024) :
    adjOf G (ix2 i j) = if against (boxesOf G) i j then (1 : EReal) else 0 := by
  unfold adjOf
  refine (View.canon_apply_of_pieces (fun y => if against (boxesOf G) (y 0) (y 1) then (1 : EReal) else 0) _ ?_ (ix2 i j) ?_).trans rfl
  · intro p hp x
    obtain ⟨r, _, rfl⟩ := List.mem_map.1 hp
    have hr := r.isLt
    obtain ⟨a, b, rfl⟩ : ∃ (a : Fin 64) (b : Fin 1024), x = ix2 a b := ⟨x 0, x 1, by funext q; fin_cases q <;> rfl⟩
    have e0 : (bandPiece G r).1.emb (ix2 a b) = ix2 ⟨64 * r.val + a.val, by omega⟩ b := by
      funext q; apply Fin.ext
      fin_cases q
      · show 64 * r.val + 1 * a.val = 64 * r.val + a.val
        omega
      · show 0 + 1 * b.val = b.val
        omega
    rw [e0]
    exact band_at G (64 * r.val) (by omega) _ _ _ _ a b
  · refine ⟨bandPiece G ⟨i.val / 64, by omega⟩, List.mem_map.2 ⟨_, by simp, rfl⟩, ?_⟩
    unfold bandPiece
    rw [Rect.mem_set_unit]
    intro q
    fin_cases q
    · show 64 * (i.val / 64) ≤ i.val ∧ i.val < 64 * (i.val / 64) + 64
      omega
    · show 0 ≤ j.val ∧ j.val < 0 + 1024
      omega

end Cert.KernelIdeal.Val
-- ==== Proof.Val.Loop.lean ====
/- The suppression loop of the second call: it ends at the greedy mask. -/
module

public import proofs.«01_k».proof.Proof.Val.NmsAt

@[expose] public section

set_option maxRecDepth 16384

noncomputable section

namespace Cert.KernelIdeal.Val

open Cert.KernelIdeal.Gen Cert.KernelIdeal.Hand Cert.Greedy
open Idealize.ShloMosaic Idealize.ShloMosaic.TcCoe Idealize.ShloMosaic.Tactic

open Classical in
/-- A mask as the eight equal rows of zeros and ones the loop carries. -/
def ind (K : Fin 1024 → Prop) : FVec Ideal S8x1024 .bf16 := fun y => if K (y 1) then (1 : EReal) else 0

open Classical in
/-- The adjacency matrix of a relation. -/
def mat (A : Fin 1024 → Fin 1024 → Prop) : FVec Ideal S1024x1024 .bf16 := fun y => if A (y 0) (y 1) then (1 : EReal) else 0

open Classical in
theorem ind_at (K : Fin 1024 → Prop) (a : Fin 8) (j : Fin 1024) : ind K (ix2 a j) = if K j then (1 : EReal) else 0 := rfl
open Classical in
theorem mat_at (A : Fin 1024 → Fin 1024 → Prop) (i j : Fin 1024) : mat A (ix2 i j) = if A i j then (1 : EReal) else 0 := rfl

theorem sum_pos_iff (K : Fin 1024 → Prop) (A : Fin 1024 → Fin 1024 → Prop) (a : Fin 8) (j : Fin 1024) :
    0 < ∑ x, (ind K (ix2 a x) * mat A (ix2 x j) : EReal) ↔ ∃ i, K i ∧ A i j := by
  have hn : ∀ x ∈ Finset.univ, (0 : EReal) ≤ ind K (ix2 a x) * mat A (ix2 x j) := by
    intro x _
    rw [ind_at, mat_at]
    split_ifs <;> simp
  constructor
  · intro h
    by_contra hc
    have : ∑ x, (ind K (ix2 a x) * mat A (ix2 x j) : EReal) = 0 := by
      refine Finset.sum_eq_zero fun x _ => ?_
      rw [ind_at, mat_at]
      by_cases h1 : K x
      · have h2 : ¬ A x j := fun h2 => hc ⟨x, h1, h2⟩
        simp [h2]
      · simp [h1]
    rw [this] at h
    exact lt_irrefl _ h
  · rintro ⟨i, h1, h2⟩
    refine lt_of_lt_of_le ?_ (Finset.single_le_sum hn (Finset.mem_univ i))
    rw [ind_at, mat_at, if_pos h1, if_pos h2]
    simp

theorem pay3_at (K : Fin 1024 → Prop) (A : Fin 1024 → Fin 1024 → Prop) (a : Fin 8) (j : Fin 1024) :
    k1_pay3 (ind K) (mat A) (ix2 a j) = ind (sweepP A K) (ix2 a j) := by
  unfold k1_pay3
  pointwise
  rw [ind_at]
  have h := sum_pos_iff K A a j
  unfold sweepP
  by_cases hc : ∃ i, K i ∧ A i j
  · rw [if_pos (h.2 hc), if_neg (not_not.2 hc)]
  · rw [if_neg (fun h2 => hc (h.1 h2)), if_pos hc]

theorem pay5_eq (K : Fin 1024 → Prop) (A : Fin 1024 → Fin 1024 → Prop) : k1_pay5 (ind K) (mat A) = ind (sweepP A K) := by
  funext y
  obtain ⟨a, j, rfl⟩ : ∃ (a : Fin 8) (j : Fin 1024), y = ix2 a j := ⟨y 0, y 1, by funext q; fin_cases q <;> rfl⟩
  unfold k1_pay5
  pointwise
  exact pay3_at K A a j

/-- How far a sweep moves an entry of the mask. -/
def away (A : Fin 1024 → Fin 1024 → Prop) (K : Fin 1024 → Prop) (a : Fin 8) (j : Fin 1024) : EReal :=
  max ((ind (sweepP A K) (ix2 a j) : EReal) - ind K (ix2 a j)) (-((ind (sweepP A K) (ix2 a j) : EReal) - ind K (ix2 a j)))

theorem pay4_pos {K : Fin 1024 → Prop} {A : Fin 1024 → Fin 1024 → Prop} (h : ¬ (0 : EReal) < k1_pay4 (ind K) (mat A)) : sweepP A K = K := by
  have e : k1_pay4 (ind K) (mat A) = ∑ x : Fin 8, ∑ x_1 : Fin 1024, away A K x x_1 := by
    unfold k1_pay4
    pointwise
    simp only [pay3_at]
    rfl
  have hn : ∀ (a : Fin 8) (j : Fin 1024), (0 : EReal) ≤ away A K a j := by
    intro a j
    unfold away
    rw [ind_at, ind_at]
    split_ifs <;> simp <;> exact le_total _ _
  funext j
  by_contra hc
  apply h
  rw [e]
  refine lt_of_lt_of_le ?_ (Finset.single_le_sum (f := fun x : Fin 8 => ∑ x_1 : Fin 1024, away A K x x_1) (fun a _ => Finset.sum_nonneg fun j _ => hn a j) (Finset.mem_univ 0))
  refine lt_of_lt_of_le ?_ (Finset.single_le_sum (fun j _ => hn 0 j) (Finset.mem_univ j))
  unfold away
  rw [ind_at, ind_at]
  by_cases h1 : sweepP A K j <;> by_cases h2 : K j
  · exact absurd (propext ⟨fun _ => h2, fun _ => h1⟩) hc
  · simp [h1, h2]
  · simp [h1, h2]
  · exact absurd (propext ⟨fun h => absurd h h1, fun h => absurd h h2⟩) hc

theorem count_lt {m : ℕ} (h : m < 1026) : Scalar.cmpi .slt (BitVec.ofNat 32 m) 1026#32 = 1#1 := by
  have h1 : (BitVec.ofNat 32 m).toInt = m := by rw [BitVec.toInt_eq_toNat_cond]; simp; omega
  show BitVec.ofBool ((BitVec.ofNat 32 m).slt 1026#32) = _
  rw [BitVec.slt, h1]
  have : decide ((m : ℤ) < (1026#32).toInt) = true := by simp; omega
  rw [this]; rfl

variable {A : Fin 1024 → Fin 1024 → Prop} (hA : ∀ i j, A i j → i < j)
include hA

theorem loopN_greedy : ∀ (n m : ℕ) (_ : n + m = 1026) (K : Fin 1024 → Prop) (f : BitVec 32) (_ : AgreeTo m K (greedy A))
    (_ : f = 1#32 ∨ (f = 0#32 ∧ K = greedy A)), (loopN (mat A) n (ind K, f, BitVec.ofNat 32 m)).1 = ind (greedy A)
  | 0, m, hm, K, f, hK, hf => by
    obtain rfl : m = 1026 := by omega
    show ind K = _
    rw [eq_of_agree (by omega) hK]
  | n + 1, m, hm, K, f, hK, hf => by
    have hm' : m < 1026 := by omega
    rw [loopN]
    rcases hf with rfl | ⟨rfl, rfl⟩
    · split_ifs with hg
      · have e : sweep (mat A) (ind K, 1#32, BitVec.ofNat 32 m)
            = (ind (sweepP A K), (if (0 : EReal) < k1_pay4 (ind K) (mat A) then 1#32 else 0#32), BitVec.ofNat 32 (m + 1)) := by
          unfold sweep
          refine Prod.ext (pay5_eq K A) (Prod.ext ?_ ?_)
          · show (BitVec.ofBool (decide _)).setWidth 32 = _
            pointwise
            by_cases hp : (0 : EReal) < k1_pay4 (ind K) (mat A) <;> simp [hp]
          · show BitVec.ofNat 32 m + 1#32 = _
            exact (BitVec.ofNat_add m 1).symm
        rw [e]
        refine loopN_greedy n (m + 1) (by omega) _ _ (agree_greedy_sweep hA hK) ?_
        by_cases hp : (0 : EReal) < k1_pay4 (ind K) (mat A)
        · left; rw [if_pos hp]
        · right
          have hs := pay4_pos hp
          refine ⟨?_, by rw [hs]; exact greedy_unique hA hs⟩
          rw [if_neg hp]
      · exact absurd (by
          unfold goesOn
          simp only [count_lt hm', decide_eq_true_eq]; decide) hg
    · split_ifs with hg
      · exfalso
        unfold goesOn at hg
        simp only [count_lt hm'] at hg
        revert hg; decide
      · rfl

theorem loopEnd_greedy : (loopEnd (mat A)).1 = ind (greedy A) := by
  have e : (k1_pay625 : FVec Ideal S8x1024 .bf16) = ind (fun _ => True) := by
    funext y
    unfold k1_pay625
    pointwise
    simp [ind]
  unfold loopEnd loopInit
  rw [e]
  exact loopN_greedy hA 1026 0 rfl _ _ (fun i hi => absurd hi (Nat.not_lt_zero _)) (Or.inl rfl)
omit hA

theorem adjOf_eq (G : FVec Ideal S8x1024 .f32) : adjOf G = mat (against (boxesOf G)) := by
  funext y
  obtain ⟨a, j, rfl⟩ : ∃ (a j : Fin 1024), y = ix2 a j := ⟨y 0, y 1, by funext q; fin_cases q <;> rfl⟩
  exact adjOf_at G a j

/-- Whether candidate `j` is kept: by the suppression, and its confidence above the threshold. -/
def kept (G : FVec Ideal S8x1024 .f32) (j : Fin 1024) : Prop :=
  greedy (against (boxesOf G)) j ∧ Ideal.ofBits FTy.f32 0x3E800000#32 < G (ix2 4 j)

open Classical in
theorem pay626_at (G : FVec Ideal S8x1024 .f32) (j : Fin 1024) (h : S8x1024.Slices ![4, 0] S1x1024) :
    k1_pay626 (row G 4 h) (loopEnd (adjOf G)).1 (ix2 0 j) = BitVec.ofBool (decide (kept G j)) := by
  rw [adjOf_eq, loopEnd_greedy (fun i j h => h.1)]
  unfold k1_pay626 row
  pointwise
  rw [ind_at]
  unfold kept
  by_cases h1 : greedy (against (boxesOf G)) j <;> by_cases h2 : Ideal.ofBits FTy.f32 0x3E800000#32 < G (ix2 4 j) <;> simp [h1, h2, IntOp.andi]

open Classical in
theorem select_ofBool {α : Type} (P : Prop) (a b : α) : Scalar.select (BitVec.ofBool (decide P)) a b = if P then a else b := by
  by_cases h : P <;> simp [h, Scalar.select]

open Classical in
theorem resXY_at (G : FVec Ideal S8x1024 .f32) (j : Fin 1024) (k : Fin 4) :
    resXY G (ix3 0 k j) = if kept G j then Ideal.div (boxesOf G j k) (Ideal.ofBits .f32 0x44200000#32) else 0 := by
  unfold resXY maskOf k1_pay631 k1_pay627 k1_pay628 k1_pay629 k1_pay630
  have h := pay626_at G j slices_S8x1024_o4_0_S1x1024
  generalize k1_pay626 (row G 4 slices_S8x1024_o4_0_S1x1024) (loopEnd (adjOf G)).1 = M at *
  unfold row
  fin_cases k
  all_goals
    pointwise
    rw [h, select_ofBool]
    rfl

open Classical in
theorem resConf_at (G : FVec Ideal S8x1024 .f32) (j : Fin 1024) :
    resConf G (ix3 0 0 j) = if kept G j then G (ix2 4 j) else 0 := by
  unfold resConf k1_pay632 maskOf
  have h := pay626_at G j slices_S8x1024_o4_0_S1x1024
  generalize k1_pay626 (row G 4 slices_S8x1024_o4_0_S1x1024) (loopEnd (adjOf G)).1 = M at *
  unfold row
  pointwise
  rw [h, select_ofBool]

open Classical in
theorem resCls_at (G : FVec Ideal S8x1024 .f32) (j : Fin 1024) :
    resCls G (ix3 0 0 j) = Ideal.fptosi 32 (if kept G j then G (ix2 5 j) else Ideal.ofBits .f32 0xBF800000#32) := by
  unfold resCls k1_pay1 k1_pay633 maskOf
  have h := pay626_at G j slices_S8x1024_o4_0_S1x1024
  generalize k1_pay626 (row G 4 slices_S8x1024_o4_0_S1x1024) (loopEnd (adjOf G)).1 = M at *
  unfold row
  pointwise
  rw [h, select_ofBool]
  rfl

open Classical in
theorem resKeep_at (G : FVec Ideal S8x1024 .f32) (j : Fin 1024) :
    resKeep G (ix3 0 0 j) = if kept G j then 1#32 else 0#32 := by
  unfold resKeep k1_pay2 maskOf
  have h := pay626_at G j slices_S8x1024_o4_0_S1x1024
  generalize k1_pay626 (row G 4 slices_S8x1024_o4_0_S1x1024) (loopEnd (adjOf G)).1 = M at *
  pointwise
  rw [h]
  by_cases hk : kept G j <;> simp [hk]

end Cert.KernelIdeal.Val
-- ==== Proof.Val.Pack.lean ====
/- The packing call at an index: what one tile of the packed array holds. -/
module

public import proofs.«01_k».proof.Proof.KI.Body0
public import Idealize.ShloMosaic.Lib.Pointwise
public import Idealize.ShloMosaic.Lib.ValueIdx
public import Idealize.ShloMosaic.PureOps.Ideal.Laws

@[expose] public section

set_option maxRecDepth 16384

noncomputable section

namespace Cert.KernelIdeal.Val

open Cert.KernelIdeal.Gen Cert.KernelIdeal.Hand
open Idealize.ShloMosaic Idealize.ShloMosaic.TcCoe Idealize.ShloMosaic.Tactic

/-- The eight rows the packing call writes for one candidate, from its four box coordinates and its eighty class scores. -/
def tile (b : Fin 4 → EReal) (g : Fin 80 → EReal) (r : Fin 8) : EReal :=
  let two := Ideal.ofBits FTy.f32 0x40000000#32
  let conf := Finset.univ.fold max (Ideal.ofBits FTy.f32 0xFF800000#32) g
  match r with
  | 0 => b 0 - Ideal.div (b 2) two
  | 1 => b 1 - Ideal.div (b 3) two
  | 2 => b 0 + Ideal.div (b 2) two
  | 3 => b 1 + Ideal.div (b 3) two
  | 4 => conf
  | 5 => Finset.univ.fold min (Ideal.ofBits FTy.f32 0x7F800000#32)
      (fun k : Fin 80 => if g k = conf then FloatOps.sitofp (F := Ideal) FTy.f32 (BitVec.ofNat 32 k.val) else Ideal.ofBits FTy.f32 0x4E6E6B28#32)
  | 6 => if Ideal.ofBits FTy.f32 0x3E800000#32 < conf then conf else Ideal.ofBits FTy.f32 0xBF800000#32
  | 7 => 0

set_option maxHeartbeats 1000000 in
theorem pay2_at (v0 : Vec Ideal S1x4x128 .f32) (v2 : Vec Ideal S1x80x128 .f32) (r : Fin 8) (l : Fin 128) :
    k0_pay2 v0 v2 (ix4 0 0 r l) = tile (fun k => v0 (ix3 0 k l)) (fun k => v2 (ix3 0 k l)) r := by
  unfold k0_pay2
  fin_cases r <;> pointwise <;> rfl

set_option maxHeartbeats 1000000 in
theorem pay67_at (v0 : Vec Ideal S1x4x80 .f32) (v2 : Vec Ideal S1x80x80 .f32) (r : Fin 8) (l : Fin 128) :
    k0_pay1 (k0_pay67 v0 v2) (ix4 0 0 r l) = tile (fun k => if h : l.val < 80 then v0 (ix3 0 k ⟨l.val, h⟩) else 0)
      (fun k => if h : l.val < 80 then v2 (ix3 0 k ⟨l.val, h⟩) else 0) r := by
  unfold k0_pay1 k0_pay67
  fin_cases r <;> pointwise <;> rfl

/-- One candidate's channel `k` in the input block, and zero past the last candidate. -/
def chan (x0 : Vec Ideal S1x84x8400 .f32) (n : ℕ) (k : Fin 84) : EReal :=
  if h : n < 8400 then x0 (ix3 0 k ⟨n, h⟩) else 0

/-- The packed block as one function of its index. -/
def packed (x0 : Vec Ideal S1x84x8400 .f32) : Vec Ideal S1x66x8x128 .f32 := fun y =>
  tile (fun k => chan x0 (128 * (y 1).val + (y 3).val) (k.castLE (by decide)))
    (fun k => chan x0 (128 * (y 1).val + (y 3).val) (k.natAdd 4)) (y 2)

theorem piece_full (c : ℕ) (hc : c < 65) (x0 : Vec Ideal S1x84x8400 .f32)
    (h1 : ∀ a, (![0, 0, 128 * c] : Fin 3 → ℕ) a + S1x4x128.size a ≤ S1x84x8400.size a)
    (h2 : ∀ a, (![0, 4, 128 * c] : Fin 3 → ℕ) a + S1x80x128.size a ≤ S1x84x8400.size a)
    (h3 : ∀ a, (![0, c, 0, 0] : Fin 4 → ℕ) a + S1x1x8x128.size a ≤ S1x66x8x128.size a) (x : S1x1x8x128.Idx) :
    k0_pay2 (View.ld x0 (Rect.unit (s := S1x84x8400) ![0, 0, 128 * c] S1x4x128.size h1))
      (View.ld x0 (Rect.unit (s := S1x84x8400) ![0, 4, 128 * c] S1x80x128.size h2)) x
    = packed x0 ((Rect.unit (s := S1x66x8x128) ![0, c, 0, 0] S1x1x8x128.size h3).emb x) := by
  obtain ⟨r, l, rfl⟩ : ∃ (r : Fin 8) (l : Fin 128), x = ix4 0 0 r l := by
    refine ⟨x 2, x 3, ?_⟩
    funext a; fin_cases a
    · exact Subsingleton.elim (α := Fin 1) _ _
    · exact Subsingleton.elim (α := Fin 1) _ _
    · rfl
    · rfl
  rw [pay2_at]
  unfold packed chan
  have hl := l.isLt
  have e1 : ((Rect.unit (s := S1x66x8x128) ![0, c, 0, 0] S1x1x8x128.size h3).emb (ix4 0 0 r l) 1).val = c := by
    simp [Rect.emb, LoadRect.idx, Rect.unit, ix4]
  have e3 : ((Rect.unit (s := S1x66x8x128) ![0, c, 0, 0] S1x1x8x128.size h3).emb (ix4 0 0 r l) 3).val = l.val := by
    simp [Rect.emb, LoadRect.idx, Rect.unit, ix4]
  have e2 : ((Rect.unit (s := S1x66x8x128) ![0, c, 0, 0] S1x1x8x128.size h3).emb (ix4 0 0 r l) 2) = r := by
    apply Fin.ext; simp [Rect.emb, LoadRect.idx, Rect.unit, ix4]
  rw [e2]
  simp only [e1, e3]
  have hh : 128 * c + l.val < 8400 := by omega
  simp only [hh, dif_pos]
  congr 1 <;> funext k <;> unfold View.ld <;> congr 1 <;> funext a <;> fin_cases a <;> apply Fin.ext <;>
    simp [Rect.emb, LoadRect.idx, Rect.unit, ix3] <;> rfl

theorem piece_last (x0 : Vec Ideal S1x84x8400 .f32) (x : S1x1x8x128.Idx) :
    k0_pay1 (k0_pay67 (View.ld x0 r0_195) (View.ld x0 r0_196)) x = packed x0 (r0_197.emb x) := by
  obtain ⟨r, l, rfl⟩ : ∃ (r : Fin 8) (l : Fin 128), x = ix4 0 0 r l := by
    refine ⟨x 2, x 3, ?_⟩
    funext a; fin_cases a
    · exact Subsingleton.elim (α := Fin 1) _ _
    · exact Subsingleton.elim (α := Fin 1) _ _
    · rfl
    · rfl
  rw [pay67_at]
  unfold packed chan
  have hl := l.isLt
  have e1 : (r0_197.emb (ix4 0 0 r l) 1).val = 65 := by
    simp [Rect.emb, LoadRect.idx, Rect.unit, ix4]
  have e3 : (r0_197.emb (ix4 0 0 r l) 3).val = l.val := by
    simp [Rect.emb, LoadRect.idx, Rect.unit, ix4]
  have e2 : (r0_197.emb (ix4 0 0 r l) 2) = r := by
    apply Fin.ext; simp [Rect.emb, LoadRect.idx, Rect.unit, ix4]
  rw [e2]
  simp only [e1, e3]
  by_cases hh : l.val < 80
  · have h2 : 128 * 65 + l.val < 8400 := by omega
    simp only [h2, hh, dif_pos]
    congr 1 <;> funext k <;> unfold View.ld <;> congr 1 <;> funext a <;> fin_cases a <;> apply Fin.ext <;>
      simp [Rect.emb, LoadRect.idx, Rect.unit, ix3] <;> rfl
  · have h2 : ¬ 128 * 65 + l.val < 8400 := by omega
    simp only [h2, hh, dif_neg, not_false_eq_true]

/-- The pieces of the packed block that are whole chunks, as one family. -/
def fullPiece (x0 : Vec Ideal S1x84x8400 .f32) (c : Fin 65) : View.Piece (Elt Ideal) S1x66x8x128 .f32 :=
  ⟨Rect.unit (s := S1x66x8x128) ![0, c.val, 0, 0] S1x1x8x128.size (by intro a; have := c.isLt; fin_cases a <;> simp <;> omega),
    k0_pay2 (View.ld x0 (Rect.unit (s := S1x84x8400) ![0, 0, 128 * c.val] S1x4x128.size (by intro a; have := c.isLt; fin_cases a <;> simp <;> omega)))
      (View.ld x0 (Rect.unit (s := S1x84x8400) ![0, 4, 128 * c.val] S1x80x128.size (by intro a; have := c.isLt; fin_cases a <;> simp <;> omega)))⟩

theorem out0_eq (x0 : Vec Ideal S1x84x8400 .f32) :
    out0_1 x0 = View.canon (⟨r0_197, k0_pay1 (k0_pay67 (View.ld x0 r0_195) (View.ld x0 r0_196))⟩ :: ((List.finRange 65).reverse.map (fullPiece x0))) := rfl

/-- The packing call's block, at every index. -/
theorem out0_at (x0 : Vec Ideal S1x84x8400 .f32) : out0_1 x0 = packed x0 := by
  funext y
  rw [out0_eq]
  refine View.canon_apply_of_pieces (packed x0) _ ?_ y ?_
  · intro p hp x
    rcases List.mem_cons.mp hp with rfl | hp
    · exact piece_last x0 x
    · obtain ⟨c, -, rfl⟩ := List.mem_map.mp hp
      exact piece_full c.val c.isLt x0 (by intro a; have := c.isLt; fin_cases a <;> simp <;> omega) (by intro a; have := c.isLt; fin_cases a <;> simp <;> omega) (by intro a; have := c.isLt; fin_cases a <;> simp <;> omega) x
  · by_cases h : (y 1).val < 65
    · refine ⟨fullPiece x0 ⟨_, h⟩, List.mem_cons_of_mem _ (List.mem_map.mpr ⟨_, by simp, rfl⟩), ?_⟩
      unfold fullPiece
      rw [Rect.mem_set_unit]
      have := (y 0).isLt; have := (y 1).isLt; have := (y 2).isLt; have := (y 3).isLt
      intro a; fin_cases a <;> simp_all <;> omega
    · refine ⟨_, List.mem_cons_self, ?_⟩
      rw [Rect.mem_set_unit]
      have := (y 0).isLt; have := (y 1).isLt; have := (y 2).isLt; have := (y 3).isLt
      intro a; fin_cases a <;> simp_all <;> omega

end Cert.KernelIdeal.Val
-- ==== Proof.Val.Regions.lean ====
/- What the two calls leave in their arrays, and what the host operations between and after them read. -/
module

public import proofs.«01_k».proof.Proof.Val.Loop
public import proofs.«01_k».proof.Proof.Val.Pack
public import proofs.«01_k».proof.Proof.KI.Run
public import Idealize.ShloMosaic.Lib.StableHlo.ReadAt

@[expose] public section

set_option maxRecDepth 16384

noncomputable section

namespace Cert.KernelIdeal.Val

open Cert.KernelIdeal.Gen Cert.KernelIdeal.Hand Cert.Greedy
open Idealize.ShloMosaic Idealize.ShloMosaic.TcCoe Idealize.ShloMosaic.Tactic
open Idealize.ShloMosaic.Pipeline (Dat Cfg Window)

/-- One image's predictions. -/
def image (X : Vec Ideal S16x84x8400 .f32) (b : Fin 16) : Vec Ideal S1x84x8400 .f32 := fun y => X (ix3 b (y 1) (y 2))

/-- The packed array: for each image, the packed block of its predictions. -/
def packedAll (X : Vec Ideal S16x84x8400 .f32) : Vec Ideal S16x66x8x128 .f32 := fun y => packed (image X (y 0)) (ix4 0 (y 1) (y 2) (y 3))

section
variable (V : (c : Dev nD) → (b : Ref sig .tc) → Buf (Elt Ideal) ((c : Thread nD τ).loc b))

theorem idx0 : ∀ t : Fin (cfg0 (F := Ideal)).N, win0_0.index t = ![t.val, 0, 0] ∧ win0_1.index t = ![t.val, 0, 0, 0] :=
  (by decide +kernel : ∀ t : Fin grid0.N, _)

theorem idx1 : ∀ t : Fin (cfg1 (F := Ideal)).N, win1_0.index t = ![t.val, 0, 0, 0] ∧ win1_1.index t = ![t.val, 0, 0]
    ∧ win1_2.index t = ![t.val, 0, 0] ∧ win1_3.index t = ![t.val, 0, 0] ∧ win1_4.index t = ![t.val, 0, 0] ∧ win1_5.index t = ![t.val, 0, 0] :=
  (by decide +kernel : ∀ t : Fin grid1.N, _)

theorem iblk0_eq (c : Dev nD) (t : Fin (cfg0 (F := Ideal)).N) (b : Fin 16) (hb : b.val = t.val) : iblk0 V c 0 t = image (V c main_arg0) b := by
  funext y
  unfold image
  blk_ext! [iblk0, idx0 t]

theorem final0 (c : Dev nD) : (dat0 V c).arrAt 1 (cfg0 (F := Ideal)).N = packedAll (V c main_arg0) := by
  refine (dat0 V c).arrAt_eq_of_covers 1 _ (by decide +kernel) fun t hf y => ?_
  blk_simp
  have ht : t.val < 16 := t.isLt.trans_eq N_0
  rw [after0_1, out0_at, iblk0_eq V c t ⟨t.val, ht⟩ rfl]
  show packed _ y = packed _ _
  have e : (win0_1.blk t).view.emb y = ix4 ⟨t.val, ht⟩ (y 1) (y 2) (y 3) := by
    blk_ext! [idx0 t]
  rw [e]
  rfl

/-- One image's packed block, its ordered indices, and its gathered candidates. -/
def packedOf (P : Vec Ideal S16x66x8x128 .f32) (b : Fin 16) : Vec Ideal S1x66x8x128 .f32 := fun y => P (ix4 b (y 1) (y 2) (y 3))
def orderOf (O : Vec Ideal S16x8x128 .i32) (b : Fin 16) : Vec Ideal S1x8x128 .i32 := fun y => O (ix3 b (y 1) (y 2))
def cands (P : Vec Ideal S16x66x8x128 .f32) (O : Vec Ideal S16x8x128 .i32) (b : Fin 16) : FVec Ideal S8x1024 .f32 :=
  rows (packedOf P b) (orderOf O b)

theorem iblk1_0_eq (c : Dev nD) (t : Fin (cfg1 (F := Ideal)).N) (b : Fin 16) (hb : b.val = t.val) : iblk1 V c 0 t = packedOf (V c main_v0) b := by
  funext y
  unfold packedOf
  blk_ext! [iblk1, idx1 t]
theorem iblk1_1_eq (c : Dev nD) (t : Fin (cfg1 (F := Ideal)).N) (b : Fin 16) (hb : b.val = t.val) : iblk1 V c 1 t = orderOf (V c main_v4) b := by
  funext y
  unfold orderOf
  blk_ext! [iblk1, idx1 t]

theorem outsAt1_eq (c : Dev nD) (t : Fin (cfg1 (F := Ideal)).N) (b : Fin 16) (hb : b.val = t.val) :
    outsAt1 V c t = (resXY (cands (V c main_v0) (V c main_v4) b), resConf (cands (V c main_v0) (V c main_v4) b),
      resCls (cands (V c main_v0) (V c main_v4) b), resKeep (cands (V c main_v0) (V c main_v4) b)) := by
  unfold outsAt1
  rw [out2_eq, out3_eq, out4_eq, out5_eq, iblk1_0_eq V c t b hb, iblk1_1_eq V c t b hb]
  rfl

theorem final1_2 (c : Dev nD) : (dat1 V c).arrAt 2 (cfg1 (F := Ideal)).N
    = (fun y => resXY (cands (V c main_v0) (V c main_v4) (y 0)) (ix3 0 (y 1) (y 2)) : Vec Ideal S16x4x1024 .f32) := by
  refine (dat1 V c).arrAt_eq_of_covers 2 _ (by decide +kernel) fun t hf y => ?_
  blk_simp
  have ht : t.val < 16 := t.isLt.trans_eq N_1
  rw [after1_2, outsAt1_eq V c t ⟨t.val, ht⟩ rfl]
  have e : (win1_2.blk t).view.emb y = ix3 ⟨t.val, ht⟩ (y 1) (y 2) := by
    blk_ext! [idx1 t]
  rw [e]
  have e2 : y = ix3 0 (y 1) (y 2) := by
    blk_ext! []
  exact congrArg (resXY (cands (V c main_v0) (V c main_v4) ⟨t.val, ht⟩)) e2
theorem final1_3 (c : Dev nD) : (dat1 V c).arrAt 3 (cfg1 (F := Ideal)).N
    = (fun y => resConf (cands (V c main_v0) (V c main_v4) (y 0)) (ix3 0 (y 1) (y 2)) : Vec Ideal S16x1x1024 .f32) := by
  refine (dat1 V c).arrAt_eq_of_covers 3 _ (by decide +kernel) fun t hf y => ?_
  blk_simp
  have ht : t.val < 16 := t.isLt.trans_eq N_1
  rw [after1_3, outsAt1_eq V c t ⟨t.val, ht⟩ rfl]
  have e : (win1_3.blk t).view.emb y = ix3 ⟨t.val, ht⟩ (y 1) (y 2) := by
    blk_ext! [idx1 t]
  rw [e]
  have e2 : y = ix3 0 (y 1) (y 2) := by
    blk_ext! []
  exact congrArg (resConf (cands (V c main_v0) (V c main_v4) ⟨t.val, ht⟩)) e2
theorem final1_4 (c : Dev nD) : (dat1 V c).arrAt 4 (cfg1 (F := Ideal)).N
    = (fun y => resCls (cands (V c main_v0) (V c main_v4) (y 0)) (ix3 0 (y 1) (y 2)) : Vec Ideal S16x1x1024 .i32) := by
  refine (dat1 V c).arrAt_eq_of_covers 4 _ (by decide +kernel) fun t hf y => ?_
  blk_simp
  have ht : t.val < 16 := t.isLt.trans_eq N_1
  rw [after1_4, outsAt1_eq V c t ⟨t.val, ht⟩ rfl]
  have e : (win1_4.blk t).view.emb y = ix3 ⟨t.val, ht⟩ (y 1) (y 2) := by
    blk_ext! [idx1 t]
  rw [e]
  have e2 : y = ix3 0 (y 1) (y 2) := by
    blk_ext! []
  exact congrArg (resCls (cands (V c main_v0) (V c main_v4) ⟨t.val, ht⟩)) e2
theorem final1_5 (c : Dev nD) : (dat1 V c).arrAt 5 (cfg1 (F := Ideal)).N
    = (fun y => resKeep (cands (V c main_v0) (V c main_v4) (y 0)) (ix3 0 (y 1) (y 2)) : Vec Ideal S16x1x1024 .i32) := by
  refine (dat1 V c).arrAt_eq_of_covers 5 _ (by decide +kernel) fun t hf y => ?_
  blk_simp
  have ht : t.val < 16 := t.isLt.trans_eq N_1
  rw [after1_5, outsAt1_eq V c t ⟨t.val, ht⟩ rfl]
  have e : (win1_5.blk t).view.emb y = ix3 ⟨t.val, ht⟩ (y 1) (y 2) := by
    blk_ext! [idx1 t]
  rw [e]
  have e2 : y = ix3 0 (y 1) (y 2) := by
    blk_ext! []
  exact congrArg (resKeep (cands (V c main_v0) (V c main_v4) ⟨t.val, ht⟩)) e2
end

variable (m : (ℓ : Loc nD τ sig) → Buf (Elt Ideal) ℓ) (ρ : Dev nD → PrngReg)

/-- The predictions a core is launched with. -/
abbrev preds (c : Dev nD) : Vec Ideal S16x84x8400 .f32 := m ((c : Thread nD τ).loc main_arg0)

theorem W1_v0 (c : Dev nD) : W1 m ρ c (Proc.devRef .tc main_v0) = packedAll (preds m c) :=
  (W1_arr m ρ c 1).trans (final0 (V0 m ρ) c)

theorem W2_v0 (c : Dev nD) : W2 m ρ c (Proc.devRef .tc main_v0) = packedAll (preds m c) :=
  (W2_of m ρ c main_v0 (by decide)).trans (W1_v0 m ρ c)

/-- The packed scores, one row per image. -/
def scoresAll (X : Vec Ideal S16x84x8400 .f32) : Vec Ideal S16x8448 .f32 := fun y =>
  packedAll X (ix4 (y 0) ⟨(y 1).val / 128, by have : (y 1).val < 8448 := (y 1).isLt; omega⟩ 6 ⟨(y 1).val % 128, Nat.mod_lt _ (by decide)⟩)

/-- The candidates' indices in decreasing order of score. -/
def orderAll (X : Vec Ideal S16x84x8400 .f32) : Vec Ideal S16x8x128 .i32 := fun y =>
  (Host.topK S16x1024 1 (FloatOps.cmpfTotal (F := Ideal) (φ := .f32) .gt) (scoresAll X) sliceFits_S16x8448_S16x1024).2
    (ix2 (y 0) ⟨128 * (y 1).val + (y 2).val, by have : (y 1).val < 8 := (y 1).isLt; have : (y 2).val < 128 := (y 2).isLt; omega⟩)

theorem W2_v4 (c : Dev nD) : W2 m ρ c (Proc.devRef .tc main_v4) = orderAll (preds m c) := by
  funext y
  show StableHlo.after hostOps1 _ _ y = _
  after_reads_simp
  rw [W1_v0]
  have e : (fun i => shapeCast main_v3.ty.shape
              (fun i => shapeCast main_v2.ty.shape
                  (extractStridedSlice S16x66x1x128 ![0, 0, 6, 0] (packedAll (preds m c))
                    slices_S16x66x8x128_S16x66x1x128_0_0_6_0)
                  shapeCasts_S16x66x1x128_S16x66x128 i)
              shapeCasts_S16x66x128_S16x8448 i) = scoresAll (preds m c) := by
    funext i
    obtain ⟨b, n, rfl⟩ : ∃ (b : Fin 16) (n : Fin 8448), i = ix2 b n := ⟨i 0, i 1, by funext q; fin_cases q <;> rfl⟩
    show _ = packedAll (preds m c) (ix4 b ⟨n.val / 128, by omega⟩ 6 ⟨n.val % 128, Nat.mod_lt _ (by decide)⟩)
    clean_types
    pointwise
  rw [e]
  obtain ⟨b, q, l, rfl⟩ : ∃ (b : Fin 16) (q : Fin 8) (l : Fin 128), y = ix3 b q l := ⟨y 0, y 1, y 2, by funext q; fin_cases q <;> rfl⟩
  unfold orderAll
  generalize (Host.topK S16x1024 1 (FloatOps.cmpfTotal (F := Ideal) (φ := .f32) .gt) (scoresAll (preds m c)) sliceFits_S16x8448_S16x1024).2 = Z
  show _ = Z (ix2 b ⟨128 * q.val + l.val, by omega⟩)
  clean_types
  pointwise
  exact congrArg (fun n => Z (ix2 b n)) (Fin.ext (by show q.val * 128 + l.val = 128 * q.val + l.val; omega))

theorem V2_cands (c : Dev nD) : cands (V2 m ρ c main_v0) (V2 m ρ c main_v4) = cands (packedAll (preds m c)) (orderAll (preds m c)) := by
  show cands (W2 m ρ c (Proc.devRef .tc main_v0)) (W2 m ρ c (Proc.devRef .tc main_v4)) = _
  rw [W2_v0, W2_v4]

theorem W3_v5_0 (c : Dev nD) : W3 m ρ c (Proc.devRef .tc main_v5_0)
    = (fun y => resXY (cands (packedAll (preds m c)) (orderAll (preds m c)) (y 0)) (ix3 0 (y 1) (y 2)) : Vec Ideal S16x4x1024 .f32) := by
  rw [← V2_cands m ρ c]
  exact (W3_arr m ρ c 2).trans (final1_2 (V2 m ρ) c)
theorem W3_v5_1 (c : Dev nD) : W3 m ρ c (Proc.devRef .tc main_v5_1)
    = (fun y => resConf (cands (packedAll (preds m c)) (orderAll (preds m c)) (y 0)) (ix3 0 (y 1) (y 2)) : Vec Ideal S16x1x1024 .f32) := by
  rw [← V2_cands m ρ c]
  exact (W3_arr m ρ c 3).trans (final1_3 (V2 m ρ) c)
theorem W3_v5_2 (c : Dev nD) : W3 m ρ c (Proc.devRef .tc main_v5_2)
    = (fun y => resCls (cands (packedAll (preds m c)) (orderAll (preds m c)) (y 0)) (ix3 0 (y 1) (y 2)) : Vec Ideal S16x1x1024 .i32) := by
  rw [← V2_cands m ρ c]
  exact (W3_arr m ρ c 4).trans (final1_4 (V2 m ρ) c)
theorem W3_v5_3 (c : Dev nD) : W3 m ρ c (Proc.devRef .tc main_v5_3)
    = (fun y => resKeep (cands (packedAll (preds m c)) (orderAll (preds m c)) (y 0)) (ix3 0 (y 1) (y 2)) : Vec Ideal S16x1x1024 .i32) := by
  rw [← V2_cands m ρ c]
  exact (W3_arr m ρ c 5).trans (final1_5 (V2 m ρ) c)

/-- The gathered candidates of an image, from the predictions. -/
def chosen (X : Vec Ideal S16x84x8400 .f32) (b : Fin 16) : FVec Ideal S8x1024 .f32 := cands (packedAll X) (orderAll X) b

/-- The four results of the program, from the predictions. -/
def outXY (X : Vec Ideal S16x84x8400 .f32) : Vec Ideal S16x1024x4 .f32 := fun y => resXY (chosen X (y 0)) (ix3 0 (y 2) (y 1))
def outConf (X : Vec Ideal S16x84x8400 .f32) : Vec Ideal S16x1024 .f32 := fun y => resConf (chosen X (y 0)) (ix3 0 0 (y 1))
def outCls (X : Vec Ideal S16x84x8400 .f32) : Vec Ideal S16x1024 .i32 := fun y => resCls (chosen X (y 0)) (ix3 0 0 (y 1))
def outKeep (X : Vec Ideal S16x84x8400 .f32) : Vec Ideal S16x1024 .i1 := fun y => IntOp.cmpi .ne (resKeep (chosen X (y 0)) (ix3 0 0 (y 1))) 0#32

theorem W4_v6 (c : Dev nD) : W4 m ρ c (Proc.devRef .tc main_v6) = outXY (preds m c) := by
  funext y
  show StableHlo.after hostOps2 _ _ y = _
  after_reads_simp
  rw [W3_v5_0]
  obtain ⟨b, j, k, rfl⟩ : ∃ (b : Fin 16) (j : Fin 1024) (k : Fin 4), y = ix3 b j k := ⟨y 0, y 1, y 2, by funext q; fin_cases q <;> rfl⟩
  clean_types
  pointwise
  rfl
theorem W4_v7 (c : Dev nD) : W4 m ρ c (Proc.devRef .tc main_v7) = outConf (preds m c) := by
  funext y
  show StableHlo.after hostOps2 _ _ y = _
  after_reads_simp
  rw [W3_v5_1]
  obtain ⟨b, j, rfl⟩ : ∃ (b : Fin 16) (j : Fin 1024), y = ix2 b j := ⟨y 0, y 1, by funext q; fin_cases q <;> rfl⟩
  clean_types
  pointwise
  rfl
theorem W4_v8 (c : Dev nD) : W4 m ρ c (Proc.devRef .tc main_v8) = outCls (preds m c) := by
  funext y
  show StableHlo.after hostOps2 _ _ y = _
  after_reads_simp
  rw [W3_v5_2]
  obtain ⟨b, j, rfl⟩ : ∃ (b : Fin 16) (j : Fin 1024), y = ix2 b j := ⟨y 0, y 1, by funext q; fin_cases q <;> rfl⟩
  clean_types
  pointwise
  rfl
theorem keep_at (Z : Vec Ideal S16x1x1024 .i32) (b : Fin 16) (j : Fin 1024) :
    cmpi .ne (fun i => shapeCast S16x1024 Z shapeCasts_S16x1x1024_S16x1024 i) (broadcastInDim S16x1024 ![] bcast_S_S16x1024 (constantI S_ 32 0#32)) (ix2 b j)
      = IntOp.cmpi .ne (Z (ix3 b 0 j)) 0#32 := by
  pointwise

theorem W4_v12 (c : Dev nD) : W4 m ρ c (Proc.devRef .tc main_v12) = outKeep (preds m c) := by
  funext y
  show StableHlo.after hostOps2 _ _ y = _
  after_reads_simp
  obtain ⟨b, j, rfl⟩ : ∃ (b : Fin 16) (j : Fin 1024), y = ix2 b j := ⟨y 0, y 1, by funext q; fin_cases q <;> rfl⟩
  refine (keep_at (W3 m ρ c (Proc.devRef .tc main_v5_3)) b j).trans ?_
  rw [W3_v5_3]
  rfl

end Cert.KernelIdeal.Val
-- ==== Proof.Val.KRun.lean ====
/- The kernel program's results at the end of every run. -/
module

public import proofs.«01_k».proof.Proof.Val.Regions

@[expose] public section

set_option maxRecDepth 16384

noncomputable section

namespace Cert.KernelIdeal.Val

open Cert.KernelIdeal.Gen Cert.KernelIdeal.Hand
open Idealize.ShloMosaic Idealize.ShloMosaic.TcCoe Idealize.ShloMosaic.Tactic Idealize.SL.Sem

/-- Every run ends with the four results the predictions determine, the arguments unchanged. -/
theorem run_main (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6) = outXY (preds m c)
      ∧ r.2.mem ((c.tc : Thread nD τ).loc main_v7) = outConf (preds m c)
      ∧ r.2.mem ((c.tc : Thread nD τ).loc main_v8) = outCls (preds m c)
      ∧ r.2.mem ((c.tc : Thread nD τ).loc main_v12) = outKeep (preds m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h.1 c _ (mem_uc main_v6 (by decide))).trans (W4_v6 m ρ c),
     (h.1 c _ (mem_uc main_v7 (by decide))).trans (W4_v7 m ρ c),
     (h.1 c _ (mem_uc main_v8 (by decide))).trans (W4_v8 m ρ c),
     (h.1 c _ (mem_uc main_v12 (by decide))).trans (W4_v12 m ρ c),
     (h.1 c _ (mem_uc main_arg0 (by decide))).trans (W4_main_arg0 m ρ c),
     (h.1 c _ (mem_uc main_arg1 (by decide))).trans (W4_main_arg1 m ρ c)⟩) (ends m ρ)

end Cert.KernelIdeal.Val
-- ==== Proof.Val.RefA.lean ====
/- The reference's operations before its loop, read at an index: one candidate's confidence, corners, score and class. -/
module

public import proofs.«01_k».proof.Proof.Ref
public import Idealize.ShloMosaic.Lib.Pointwise
public import Idealize.ShloMosaic.Lib.ValueIdx
public import Idealize.ShloMosaic.PureOps.Ideal.Laws
public import Idealize.ShloMosaic.Lib.StableHlo.ReadAt

@[expose] public section

set_option maxRecDepth 16384

noncomputable section

namespace Cert.ReferenceIdeal.Val

open Cert.ReferenceIdeal.Gen Cert.ReferenceIdeal.Value
open Idealize.ShloMosaic Idealize.ShloMosaic.StableHlo Idealize.ShloMosaic.TcCoe Idealize.ShloMosaic.Tactic

abbrev Vals := Valuation τ sig (Elt Ideal)

variable (V : Vals)

theorem s0_v1 (b : Fin 16) (n : Fin 8400) (k : Fin 4) : (after hostOps0 V (Proc.devRef .tc main_v1) : Vec Ideal S16x8400x4 .f32) (ix3 b n k)
    = (V (Proc.devRef .tc main_arg0) : Vec Ideal S16x84x8400 .f32) (ix3 b (k.castLE (by decide)) n) := by
  after_reads_at; rfl
theorem s0_v3 (b : Fin 16) (n : Fin 8400) (k : Fin 80) : (after hostOps0 V (Proc.devRef .tc main_v3) : Vec Ideal S16x8400x80 .f32) (ix3 b n k)
    = (V (Proc.devRef .tc main_arg0) : Vec Ideal S16x84x8400 .f32) (ix3 b (k.natAdd 4) n) := by
  after_reads_at; rfl
theorem s0_v4 (b : Fin 16) (n : Fin 8400) : (after hostOps0 V (Proc.devRef .tc main_v4) : Vec Ideal S16x8400 .f32) (ix2 b n)
    = Finset.univ.fold max (Ideal.ofBits FTy.f32 0xFF800000#32)
        (fun k : Fin 80 => (V (Proc.devRef .tc main_arg0) : Vec Ideal S16x84x8400 .f32) (ix3 b (k.natAdd 4) n)) := by
  after_reads_at; rfl

/-- The corners of a box given by centre and size. -/
def corner (p : Fin 4 → EReal) (k : Fin 4) : EReal :=
  match k with
  | 0 => p 0 - Ideal.div (p 2) (Ideal.ofBits FTy.f32 0x40000000#32)
  | 1 => p 1 - Ideal.div (p 3) (Ideal.ofBits FTy.f32 0x40000000#32)
  | 2 => p 0 + Ideal.div (p 2) (Ideal.ofBits FTy.f32 0x40000000#32)
  | 3 => p 1 + Ideal.div (p 3) (Ideal.ofBits FTy.f32 0x40000000#32)

theorem s2_v30 (b : Fin 16) (n : Fin 8400) (k : Fin 4) : (after hostOps0_2 V (Proc.devRef .tc main_v30) : Vec Ideal S16x8400x4 .f32) (ix3 b n k)
    = corner (fun k => (V (Proc.devRef .tc main_v1) : Vec Ideal S16x8400x4 .f32) (ix3 b n k)) k := by
  fin_cases k <;> after_reads_at
  all_goals after_reads_simp
  all_goals clean_types
  all_goals pointwise
  all_goals rfl
theorem s2_v32 (b : Fin 16) (n : Fin 8400) : (after hostOps0_2 V (Proc.devRef .tc main_v32) : Vec Ideal S16x8400 .i1) (ix2 b n)
    = Ideal.cmp .ogt ((V (Proc.devRef .tc main_v4) : Vec Ideal S16x8400 .f32) (ix2 b n)) (Ideal.ofBits FTy.f32 0x3E800000#32) := by
  after_reads_at
theorem s2_cst_5 : (after hostOps0_2 V (Proc.devRef .tc main_cst_5) : Vec Ideal S_ .f32)
    = fun _ => Ideal.ofBits FTy.f32 0xBF800000#32 := by
  after_reads_simp; rfl
theorem s3_v33 (b : Fin 16) (n : Fin 8400) : (after hostOps0_3 V (Proc.devRef .tc main_v33) : Vec Ideal S16x8400 .f32) (ix2 b n)
    = Scalar.select ((V (Proc.devRef .tc main_v32) : Vec Ideal S16x8400 .i1) (ix2 b n)) ((V (Proc.devRef .tc main_v4) : Vec Ideal S16x8400 .f32) (ix2 b n))
     ((V (Proc.devRef .tc main_cst_5) : Vec Ideal S_ .f32) ix0) := by
  after_reads_at; rfl
end Cert.ReferenceIdeal.Val
-- ==== Proof.Val.RefB.lean ====
/- The reference's look-ups by the chosen index, read at an index. -/
module

public import proofs.«01_k».proof.Proof.Val.RefA

@[expose] public section

set_option maxRecDepth 16384

noncomputable section

namespace Cert.ReferenceIdeal.Val

open Cert.ReferenceIdeal.Gen Cert.ReferenceIdeal.Value
open Idealize.ShloMosaic Idealize.ShloMosaic.StableHlo Idealize.ShloMosaic.TcCoe Idealize.ShloMosaic.Tactic

variable (V : Vals)

theorem s4_idx : (after hostOps0_4 V (Proc.devRef .tc main_indices) : Vec Ideal S16x1024 .i32)
    = (Host.topK S16x1024 1 (FloatOps.cmpfTotal (F := Ideal) (φ := .f32) .gt) (V (Proc.devRef .tc main_v33) : Vec Ideal S16x8400 .f32) sliceFits_S16x8400_S16x1024).2 := by
  after_reads_simp
theorem s4_v34 (b : Fin 16) (j : Fin 1024) : (after hostOps0_4 V (Proc.devRef .tc main_v34) : Vec Ideal S16x1024x1 .i32) (ix3 b j 0)
    = (Host.topK S16x1024 1 (FloatOps.cmpfTotal (F := Ideal) (φ := .f32) .gt) (V (Proc.devRef .tc main_v33) : Vec Ideal S16x8400 .f32) sliceFits_S16x8400_S16x1024).2 (ix2 b j) := by
  after_reads_at

theorem cmpi_slt_zero (n : Fin 8400) : IntOp.cmpi CmpIPredicate.slt (BitVec.ofNat 32 n.val) 0#32 = 0#1 := by
  have h : (BitVec.ofNat 32 n.val).toInt = n.val := by
    rw [BitVec.toInt_eq_toNat_of_lt] <;> rw [BitVec.toNat_ofNat] <;> omega
  simp only [IntOp.cmpi, BitVec.slt, h]
  rw [decide_eq_false (by simp)]; rfl
theorem cmpi_sge_zero (n : Fin 8400) : IntOp.cmpi CmpIPredicate.sge (BitVec.ofNat 32 n.val) 0#32 = 1#1 := by
  have h : (BitVec.ofNat 32 n.val).toInt = n.val := by
    rw [BitVec.toInt_eq_toNat_of_lt] <;> rw [BitVec.toNat_ofNat] <;> omega
  simp only [IntOp.cmpi, BitVec.sle, h]
  simp
theorem cmpi_sle_last (n : Fin 8400) : IntOp.cmpi CmpIPredicate.sle (BitVec.ofNat 32 n.val) 8399#32 = 1#1 := by
  have h : (BitVec.ofNat 32 n.val).toInt = n.val := by
    rw [BitVec.toInt_eq_toNat_of_lt] <;> rw [BitVec.toNat_ofNat] <;> omega
  have h' : (8399#32).toInt = 8399 := by decide
  simp only [IntOp.cmpi, BitVec.sle, h, h']
  rw [decide_eq_true (by omega)]; rfl

/-- A candidate's own position passes through the wrap-round for negative positions unchanged. -/
theorem wrap_word (n : Fin 8400) : Scalar.select (IntOp.cmpi CmpIPredicate.slt (BitVec.ofNat 32 n.val) 0#32)
    (IntOp.addi (BitVec.ofNat 32 n.val) 8400#32) (BitVec.ofNat 32 n.val) = BitVec.ofNat 32 n.val := by
  rw [cmpi_slt_zero]; rfl

/-- And is in bounds. -/
theorem fold_mask (f : Fin 1 → BitVec 1) (h : f 0 = 1#1) : Finset.fold IntOp.andi (1#1) f Finset.univ = 1#1 := by
  rw [Finset.univ_unique, Finset.fold_singleton]
  show IntOp.andi (f 0) 1#1 = _
  rw [h]; rfl

theorem toNat_word (n : Fin 8400) : (BitVec.ofNat 32 n.val).toInt.toNat = n.val := by
  rw [BitVec.toInt_eq_toNat_of_lt] <;> rw [BitVec.toNat_ofNat] <;> omega

theorem rows_gather {α : Type} (x : S16x8400.Idx → α) (idx : IVec S16x1024x1 32) (b : Fin 16) (j : Fin 1024) (n : Fin 8400)
    (hn : idx (ix3 b j 0) = BitVec.ofNat 32 n.val) :
    Host.gather gather_S16x8400_S16x1024x1_S16x1024_n_1_0_0_1_2_11 x idx (ix2 b j) = x (ix2 b n) := by
  unfold Host.gather
  congr 1
  funext a
  refine Fin.ext ?_
  let d := gather_S16x8400_S16x1024x1_S16x1024_n_1_0_0_1_2_11
  show d.start (ix2 b j) idx a + d.batchCoord (ix2 b j) a + d.offCoord (ix2 b j) a = _
  fin_cases a
  · show d.start (ix2 b j) idx (0 : Fin 2) + d.batchCoord (ix2 b j) (0 : Fin 2) + d.offCoord (ix2 b j) (0 : Fin 2) = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · show d.start (ix2 b j) idx (1 : Fin 2) + d.batchCoord (ix2 b j) (1 : Fin 2) + d.offCoord (ix2 b j) (1 : Fin 2) = _
    rw [GatherDims.batchCoord_eq_zero _ _ _ (fun h => by simp [d, gather_S16x8400_S16x1024x1_S16x1024_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 b j) ⟨List.idxOf (1 : Fin 2) d.startIndexMap,
        List.idxOf_lt_length_iff.2 (List.mem_singleton.mpr rfl)⟩ = ix3 b j 0 := by
      funext q; refine Fin.ext ?_
      match q with
      | ⟨0, _⟩ => rfl
      | ⟨1, _⟩ => rfl
      | ⟨2, _⟩ => rfl
    rw [hsi, hn, toNat_word]
    show min n.val 8399 = n.val
    omega

theorem boxes_gather {α : Type} (x : S16x8400x4.Idx → α) (idx : IVec S16x1024x1 32) (b : Fin 16) (j : Fin 1024) (k : Fin 4) (n : Fin 8400)
    (hn : idx (ix3 b j 0) = BitVec.ofNat 32 n.val) :
    Host.gather gather_S16x8400x4_S16x1024x1_S16x1024x4_2_1_0_0_1_2_114 x idx (ix3 b j k) = x (ix3 b n k) := by
  unfold Host.gather
  congr 1
  funext a
  refine Fin.ext ?_
  let d := gather_S16x8400x4_S16x1024x1_S16x1024x4_2_1_0_0_1_2_114
  show d.start (ix3 b j k) idx a + d.batchCoord (ix3 b j k) a + d.offCoord (ix3 b j k) a = _
  fin_cases a
  · show d.start (ix3 b j k) idx (0 : Fin 3) + d.batchCoord (ix3 b j k) (0 : Fin 3) + d.offCoord (ix3 b j k) (0 : Fin 3) = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · show d.start (ix3 b j k) idx (1 : Fin 3) + d.batchCoord (ix3 b j k) (1 : Fin 3) + d.offCoord (ix3 b j k) (1 : Fin 3) = _
    rw [GatherDims.batchCoord_eq_zero _ _ _ (fun h => by simp [d, gather_S16x8400x4_S16x1024x1_S16x1024x4_2_1_0_0_1_2_114] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 b j k) ⟨List.idxOf (1 : Fin 3) d.startIndexMap,
        List.idxOf_lt_length_iff.2 (List.mem_singleton.mpr rfl)⟩ = ix3 b j 0 := by
      funext q; refine Fin.ext ?_
      match q with
      | ⟨0, _⟩ => rfl
      | ⟨1, _⟩ => rfl
      | ⟨2, _⟩ => rfl
    rw [hsi, hn, toNat_word]
    show min n.val 8399 = n.val
    omega
  · show d.start (ix3 b j k) idx (2 : Fin 3) + d.batchCoord (ix3 b j k) (2 : Fin 3) + d.offCoord (ix3 b j k) (2 : Fin 3) = _
    rw [GatherDims.batchCoord_eq_zero _ _ _ (fun h => by simp [d, gather_S16x8400x4_S16x1024x1_S16x1024x4_2_1_0_0_1_2_114] at h)]
    unfold GatherDims.start GatherDims.offCoord
    rw [dif_neg (fun h => by simp [d, gather_S16x8400x4_S16x1024x1_S16x1024x4_2_1_0_0_1_2_114] at h),
      dif_pos ((GatherDims.mem_sKept _ _).mpr ⟨fun h => by simp [d, gather_S16x8400x4_S16x1024x1_S16x1024x4_2_1_0_0_1_2_114] at h,
        fun h => by simp [d, gather_S16x8400x4_S16x1024x1_S16x1024x4_2_1_0_0_1_2_114] at h⟩)]
    simp only [Nat.zero_add]
    rfl

theorem s5_v35 (b : Fin 16) (j : Fin 1024) (k : Fin 4) (n : Fin 8400)
    (hn : (V (Proc.devRef .tc main_v34) : Vec Ideal S16x1024x1 .i32) (ix3 b j 0) = BitVec.ofNat 32 n.val) :
    (after hostOps0_5 V (Proc.devRef .tc main_v35) : Vec Ideal S16x1024x4 .f32) (ix3 b j k)
    = (V (Proc.devRef .tc main_v30) : Vec Ideal S16x8400x4 .f32) (ix3 b n k) := by
  after_reads_at
  rw [fold_mask]
  · refine (boxes_gather _ _ b j k n ?_)
    pointwise
    rw [hn]; exact wrap_word n
  · rw [hn, wrap_word, cmpi_sge_zero, cmpi_sle_last]; rfl
theorem s6_v36 (b : Fin 16) (j : Fin 1024) (n : Fin 8400)
    (hn : (V (Proc.devRef .tc main_indices) : Vec Ideal S16x1024 .i32) (ix2 b j) = BitVec.ofNat 32 n.val) :
    (after hostOps0_6 V (Proc.devRef .tc main_v36) : Vec Ideal S16x1024 .f32) (ix2 b j)
    = (V (Proc.devRef .tc main_v4) : Vec Ideal S16x8400 .f32) (ix2 b n) := by
  after_reads_at
  rw [fold_mask]
  · refine (rows_gather _ _ b j n ?_)
    generalize (V (Proc.tc.devRef main_indices) : Vec Ideal S16x1024 .i32) = W at hn ⊢
    exact (congrArg (fun w => Scalar.select (IntOp.cmpi CmpIPredicate.slt w 0#32) (IntOp.addi w 8400#32) w) hn).trans (wrap_word n)
  · rw [hn, wrap_word, cmpi_sge_zero, cmpi_sle_last]; rfl
theorem s7_v37 (b : Fin 16) (j : Fin 1024) (n : Fin 8400)
    (hn : (V (Proc.devRef .tc main_indices) : Vec Ideal S16x1024 .i32) (ix2 b j) = BitVec.ofNat 32 n.val) :
    (after hostOps0_7 V (Proc.devRef .tc main_v37) : Vec Ideal S16x1024 .i32) (ix2 b j)
    = (V (Proc.devRef .tc main_v5) : Vec Ideal S16x8400 .i32) (ix2 b n) := by
  after_reads_at
  rw [fold_mask]
  · refine (rows_gather _ _ b j n ?_)
    generalize (V (Proc.tc.devRef main_indices) : Vec Ideal S16x1024 .i32) = W at hn ⊢
    exact (congrArg (fun w => Scalar.select (IntOp.cmpi CmpIPredicate.slt w 0#32) (IntOp.addi w 8400#32) w) hn).trans (wrap_word n)
  · rw [hn, wrap_word, cmpi_sge_zero, cmpi_sle_last]; rfl

end Cert.ReferenceIdeal.Val
-- ==== Proof.Val.RefC.lean ====
/- The reference's overlap table, one trip of its loop, and what it does after the loop, read at an index. -/
module

public import proofs.«01_k».proof.Proof.Val.RefA

@[expose] public section

set_option maxRecDepth 16384

noncomputable section

namespace Cert.ReferenceIdeal.Val

open Cert.ReferenceIdeal.Gen Cert.ReferenceIdeal.Value
open Idealize.ShloMosaic Idealize.ShloMosaic.StableHlo Idealize.ShloMosaic.TcCoe Idealize.ShloMosaic.Tactic

variable (V : Vals)

/-- The overlap of two boxes, as the reference computes it. -/
def iou (p q : Fin 4 → EReal) : EReal :=
  let inter := max 0 (min (p 2) (q 2) - max (p 0) (q 0)) * max 0 (min (p 3) (q 3) - max (p 1) (q 1))
  Ideal.div inter ((p 2 - p 0) * (p 3 - p 1) + (q 2 - q 0) * (q 3 - q 1) - inter + Ideal.ofBits FTy.f32 0x3089705F#32)

def boxAt (b : Fin 16) (j : Fin 1024) (k : Fin 4) : EReal := (V (Proc.devRef .tc main_v35) : Vec Ideal S16x1024x4 .f32) (ix3 b j k)

set_option maxHeartbeats 2000000 in
theorem s10_iou (b : Fin 16) (i j : Fin 1024) :
    (after hostOps0_10 (after hostOps0_9 (after hostOps0_8 V)) (Proc.devRef .tc main_v81_0) : Vec Ideal S16x1024x1024 .f32) (ix3 b i j)
    = iou (boxAt V b i) (boxAt V b j) := by
  after_reads_at
  simp only [id_eq]
  pointwise
  rfl
theorem s10_iota (j : Fin 1024) :
    (after hostOps0_10 V (Proc.devRef .tc main_v81_1) : Vec Ideal S1024 .i32) (ix1 j)
    = BitVec.ofNat 32 j.val := by
  after_reads_at
  rfl
theorem s10_ctr  :
    (after hostOps0_10 V (Proc.devRef .tc main_v81_3) : Vec Ideal S_ .i32) = fun _ => 0#32 := by
  after_reads_simp; rfl
theorem s10_keep (b : Fin 16) (j : Fin 1024) :
    (after hostOps0_10 V (Proc.devRef .tc main_v81_4) : Vec Ideal S16x1024 .i1) (ix2 b j) = 1#1 := by
  after_reads_at
  rfl

theorem slice_bits {α : Type} (X : S16x1024.Idx → α) (st : Fin 2 → Int) (h : S16x1024.Slices (fun _ => 0) S16x1) (t : Fin 1024)
    (h0 : st 0 = 0) (h1 : st 1 = (t.val : Int)) : Host.dynamicSlice S16x1 X st h = fun y => X (ix2 (y 0) t) := by
  funext y
  unfold Host.dynamicSlice extractStridedSlice
  refine congrArg X ?_
  funext a
  fin_cases a
  · refine Fin.ext ?_
    show (min (max (st 0) 0) ((16 - 16 : ℕ) : Int)).toNat + (y 0).val = (y 0).val
    rw [h0]; simp
  · refine Fin.ext ?_
    show (min (max (st 1) 0) ((1024 - 1 : ℕ) : Int)).toNat + (y 1).val = t.val
    have hy : (y 1).val < 1 := (y 1).isLt
    rw [h1]; omega

theorem slice_row {α : Type} (X : S16x1024x1024.Idx → α) (st : Fin 3 → Int) (h : S16x1024x1024.Slices (fun _ => 0) S16x1x1024) (t : Fin 1024)
    (h0 : st 0 = 0) (h1 : st 1 = (t.val : Int)) (h2 : st 2 = 0) :
    Host.dynamicSlice S16x1x1024 X st h = fun y => X (ix3 (y 0) t (y 2)) := by
  funext y
  unfold Host.dynamicSlice extractStridedSlice
  refine congrArg X ?_
  funext a
  fin_cases a
  · refine Fin.ext ?_
    show (min (max (st 0) 0) ((16 - 16 : ℕ) : Int)).toNat + (y 0).val = (y 0).val
    rw [h0]; simp
  · refine Fin.ext ?_
    show (min (max (st 1) 0) ((1024 - 1 : ℕ) : Int)).toNat + (y 1).val = t.val
    have hy : (y 1).val < 1 := (y 1).isLt
    rw [h1]; omega
  · refine Fin.ext ?_
    show (min (max (st 2) 0) ((1024 - 1024 : ℕ) : Int)).toNat + (y 2).val = (y 2).val
    rw [h2]; simp

theorem toInt_small (t : Fin 1024) : (BitVec.ofNat 32 t.val).toInt = t.val := by
  rw [BitVec.toInt_eq_toNat_of_lt] <;> rw [BitVec.toNat_ofNat] <;> omega

/-- The loop's own position passes through the wrap-round for negative positions unchanged. -/
theorem wrap_trip (t : Fin 1024) : (select (cmpi CmpIPredicate.slt (fun _ => BitVec.ofNat 32 t.val) (constantI S_ 32 0#32))
    (addi (fun _ => BitVec.ofNat 32 t.val) (constantI S_ 32 1024#32)) (fun _ => BitVec.ofNat 32 t.val) : IVec S_ 32)
    = fun _ => BitVec.ofNat 32 t.val := by
  funext y
  show Scalar.select (IntOp.cmpi CmpIPredicate.slt (BitVec.ofNat 32 t.val) 0#32) _ _ = _
  have : IntOp.cmpi CmpIPredicate.slt (BitVec.ofNat 32 t.val) 0#32 = 0#1 := by
    simp only [IntOp.cmpi, BitVec.slt, toInt_small]
    rw [decide_eq_false (by simp)]; rfl
  rw [this]; rfl

theorem cmpi_sgt_small (j t : Fin 1024) : IntOp.cmpi CmpIPredicate.sgt (BitVec.ofNat 32 j.val) (BitVec.ofNat 32 t.val)
    = BitVec.ofBool (decide (t < j)) := by
  simp only [IntOp.cmpi, BitVec.slt, toInt_small]
  congr 1
  exact decide_eq_decide.2 (by rw [Fin.lt_def]; omega)

/-- One trip's keep bits: a box that is still kept drops the later boxes that overlap it too much. -/
theorem step_keep (t : Fin 1024) (b : Fin 16) (j : Fin 1024) (ht : (V (Proc.devRef .tc main_v81_3) : Vec Ideal S_ .i32) = fun _ => BitVec.ofNat 32 t.val)
    (hi : ∀ j : Fin 1024, (V (Proc.devRef .tc main_v81_1) : Vec Ideal S1024 .i32) (ix1 j) = BitVec.ofNat 32 j.val) :
    (step_main_v81_4 V : Vec Ideal S16x1024 .i1) (ix2 b j)
     = Scalar.select ((V (Proc.devRef .tc main_v81_4) : Vec Ideal S16x1024 .i1) (ix2 b t))
        (IntOp.andi ((V (Proc.devRef .tc main_v81_4) : Vec Ideal S16x1024 .i1) (ix2 b j))
          (~~~ IntOp.andi (BitVec.ofBool (decide (Ideal.ofBits FTy.f32 0x3EE66666#32 <
            (V (Proc.devRef .tc main_v81_0) : Vec Ideal S16x1024x1024 .f32) (ix3 b t j)))) (BitVec.ofBool (decide (t < j)))))
        ((V (Proc.devRef .tc main_v81_4) : Vec Ideal S16x1024 .i1) (ix2 b j)) := by
  unfold step_main_v81_4
  rw [ht]
  simp only [id_eq]
  erw [wrap_trip t]
  rw [slice_bits _ _ _ t rfl (toInt_small t), slice_row _ _ _ t rfl (toInt_small t) rfl]
  clean_types
  pointwise
  rw [hi, cmpi_sgt_small]

end Cert.ReferenceIdeal.Val
-- ==== Proof.Val.RefD.lean ====
/- What the reference does after its loop, read at an index, and its choice of class. -/
module

public import proofs.«01_k».proof.Proof.Val.RefA

@[expose] public section

set_option maxRecDepth 16384

noncomputable section

namespace Cert.ReferenceIdeal.Val

open Cert.ReferenceIdeal.Gen Cert.ReferenceIdeal.Value
open Idealize.ShloMosaic Idealize.ShloMosaic.StableHlo Idealize.ShloMosaic.TcCoe Idealize.ShloMosaic.Tactic

variable (V : Vals)

/-- The bit that says place `j` of image `b` is kept, after the loop's bits and the confidence threshold. -/
def keepBit (b : Fin 16) (j : Fin 1024) : BitVec 1 :=
  IntOp.andi ((V (Proc.devRef .tc main_v81_4) : Vec Ideal S16x1024 .i1) (ix2 b j))
    (BitVec.ofBool (decide (Ideal.ofBits FTy.f32 0x3E800000#32 < (V (Proc.devRef .tc main_v36) : Vec Ideal S16x1024 .f32) (ix2 b j))))

theorem post_v84 (b : Fin 16) (j : Fin 1024) :
    (afterL postI V (Proc.devRef .tc main_v84) : Vec Ideal S16x1024 .i1) (ix2 b j) = keepBit V b j := by
  simp only [postI, afterL_cons, afterL_nil]
  after_reads_at
  rfl
theorem post_v94 (b : Fin 16) (j : Fin 1024) (k : Fin 4) :
    (afterL postI V (Proc.devRef .tc main_v94) : Vec Ideal S16x1024x4 .f32) (ix3 b j k) = Scalar.select (keepBit V b j)
      (Ideal.div ((V (Proc.devRef .tc main_v35) : Vec Ideal S16x1024x4 .f32) (ix3 b j k)) (Ideal.ofBits FTy.f32 0x44200000#32)) 0 := by
  simp only [postI, afterL_cons, afterL_nil]
  fin_cases k <;> after_reads_at
  all_goals simp only [id_eq]
  all_goals pointwise
  all_goals after_reads_simp
  all_goals clean_types
  all_goals pointwise
  all_goals rfl
theorem post_v95 (b : Fin 16) (j : Fin 1024) :
    (afterL postI V (Proc.devRef .tc main_v95) : Vec Ideal S16x1024 .f32) (ix2 b j) = Scalar.select (keepBit V b j)
      ((V (Proc.devRef .tc main_v36) : Vec Ideal S16x1024 .f32) (ix2 b j)) (0 : EReal) := by
  simp only [postI, afterL_cons, afterL_nil]
  after_reads_at
  simp only [id_eq]
  pointwise
  rfl
theorem post_v96 (b : Fin 16) (j : Fin 1024) :
    (afterL postI V (Proc.devRef .tc main_v96) : Vec Ideal S16x1024 .i32) (ix2 b j) = Scalar.select (keepBit V b j)
      ((V (Proc.devRef .tc main_v37) : Vec Ideal S16x1024 .i32) (ix2 b j)) 4294967295#32 := by
  simp only [postI, afterL_cons, afterL_nil]
  after_reads_at
  simp only [id_eq]
  pointwise
  rfl

/-- One step of the running arg-max. -/
theorem reducer_eq (r p : EReal × BitVec 32) : reducer_argmax_f32_i32 (F := Ideal) r p
    = if p.1 < r.1 then r else if r.1 = p.1 ∧ r.2.toInt < p.2.toInt then (p.1, r.2) else p := by
  obtain ⟨x, i⟩ := r
  obtain ⟨y, l⟩ := p
  have hs : IntOp.cmpi CmpIPredicate.slt i l = BitVec.ofBool (decide (i.toInt < l.toInt)) := by
    simp only [IntOp.cmpi, BitVec.slt]
  show (Scalar.select (IntOp.ori (BitVec.ofBool (decide (y < x))) (BitVec.ofBool (decide (x ≠ x)))) x y,
    Scalar.select (IntOp.ori (IntOp.ori (BitVec.ofBool (decide (y < x))) (BitVec.ofBool (decide (x ≠ x))))
      (IntOp.andi (BitVec.ofBool (decide (x = y))) (IntOp.cmpi CmpIPredicate.slt i l))) i l) = _
  rw [hs]
  have hx : decide (x ≠ x) = false := decide_eq_false (by simp)
  rw [hx]
  by_cases h1 : y < x
  · have h2 : x ≠ y := ne_of_gt h1
    simp only [h1, h2, decide_true, decide_false, if_true]
    generalize decide (i.toInt < l.toInt) = d
    cases d <;> rfl
  · by_cases h2 : x = y
    · subst h2
      by_cases h3 : i.toInt < l.toInt
      · simp only [h3, lt_irrefl, decide_true, decide_false, if_true, if_false, and_self]
        rfl
      · simp only [h3, lt_irrefl, decide_true, decide_false, if_false, and_false]
        rfl
    · simp only [h1, h2, decide_false, if_false, false_and]
      generalize decide (i.toInt < l.toInt) = d
      cases d <;> rfl

/-- What the running arg-max over the pairs seen so far satisfies. -/
def Best (r0 : EReal × BitVec 32) (seen : List (EReal × BitVec 32)) (r : EReal × BitVec 32) : Prop :=
  (∀ p ∈ seen, p.1 ≤ r.1) ∧ (∀ p ∈ seen, p.1 = r.1 → r.2.toInt ≤ p.2.toInt) ∧ (r ∈ seen ∨ r = r0)

theorem best_step (r0 : EReal × BitVec 32) (seen : List (EReal × BitVec 32)) (r p : EReal × BitVec 32) (h : Best r0 seen r) :
    Best r0 (seen ++ [p]) (reducer_argmax_f32_i32 (F := Ideal) r p) := by
  obtain ⟨h1, h2, h3⟩ := h
  rw [reducer_eq]
  split
  · rename_i hlt
    refine ⟨fun q hq => ?_, fun q hq he => ?_, ?_⟩
    · rcases List.mem_append.1 hq with hq | hq
      · exact h1 q hq
      · rw [List.mem_singleton.1 hq]; exact hlt.le
    · rcases List.mem_append.1 hq with hq | hq
      · exact h2 q hq he
      · rw [List.mem_singleton.1 hq] at he; exact absurd he hlt.ne
    · exact h3.imp (fun h => List.mem_append_left _ h) id
  · rename_i hlt
    split
    · rename_i hc
      have hr : (p.1, r.2) = r := Prod.ext hc.1.symm rfl
      rw [hr]
      refine ⟨fun q hq => ?_, fun q hq he => ?_, ?_⟩
      · rcases List.mem_append.1 hq with hq | hq
        · exact h1 q hq
        · rw [List.mem_singleton.1 hq]; exact hc.1.symm.le
      · rcases List.mem_append.1 hq with hq | hq
        · exact h2 q hq he
        · rw [List.mem_singleton.1 hq]; exact hc.2.le
      · exact h3.imp (fun h => List.mem_append_left _ h) id
    · rename_i hc
      refine ⟨fun q hq => ?_, fun q hq he => ?_, Or.inl (List.mem_append_right _ (List.mem_singleton.2 rfl))⟩
      · rcases List.mem_append.1 hq with hq | hq
        · exact (h1 q hq).trans (not_lt.1 hlt)
        · rw [List.mem_singleton.1 hq]
      · rcases List.mem_append.1 hq with hq | hq
        · have e : r.1 = p.1 := le_antisymm (not_lt.1 hlt) (he ▸ h1 q hq)
          have := h2 q hq (he.trans e.symm)
          have : ¬ r.2.toInt < p.2.toInt := fun hh => hc ⟨e, hh⟩
          omega
        · rw [List.mem_singleton.1 hq]

theorem best_fold (r0 : EReal × BitVec 32) (L : List (EReal × BitVec 32)) : ∀ (seen : List (EReal × BitVec 32)) (r : EReal × BitVec 32),
    Best r0 seen r → Best r0 (seen ++ L) (L.foldl (reducer_argmax_f32_i32 (F := Ideal)) r) := by
  induction L with
  | nil => intro seen r h; rw [List.append_nil]; exact h
  | cons p L ih =>
    intro seen r h
    have := ih (seen ++ [p]) _ (best_step r0 seen r p h)
    rw [List.append_assoc] at this
    exact this

theorem toInt_class (k : Fin 80) : (BitVec.ofNat 32 k.val).toInt = k.val := by
  rw [BitVec.toInt_eq_toNat_of_lt] <;> rw [BitVec.toNat_ofNat] <;> omega

/-- The pairs the arg-max runs over: each class's score with its position. -/
theorem fiber_mem (X : S16x8400x80.Idx → EReal) (b : Fin 16) (n : Fin 8400) (g : Fin 80 → EReal) (hg : ∀ k, X (ix3 b n k) = g k) :
    ∀ p, p ∈ Host.argReduceFiber X (iotaInDim S16x8400x80 32 2) reducesTo_S16x8400x80_S16x8400_d2 (ix2 b n)
      ↔ ∃ k : Fin 80, p = (g k, BitVec.ofNat 32 k.val) := by
  intro p
  unfold Host.argReduceFiber
  rw [List.mem_map]
  constructor
  · rintro ⟨q, hq, rfl⟩
    have hd := of_decide_eq_true (List.mem_filter.1 hq).2
    generalize S16x8400x80.rowMajor.symm q = y at hd ⊢
    have e0 : y 0 = b := congrFun hd 0
    have e1 : y 1 = n := congrFun hd 1
    have ey : y = ix3 b n (y 2) := by
      funext a
      fin_cases a
      · exact e0
      · exact e1
      · rfl
    refine ⟨y 2, Prod.ext ?_ rfl⟩
    exact (congrArg _ ey).trans (hg (y 2))
  · rintro ⟨k, rfl⟩
    refine ⟨S16x8400x80.rowMajor (ix3 b n k), List.mem_filter.2 ⟨List.mem_finRange _, decide_eq_true ?_⟩, ?_⟩
    · rw [Equiv.symm_apply_apply]
      funext a
      fin_cases a
      · rfl
      · rfl
    · rw [Equiv.symm_apply_apply]
      exact Prod.ext (hg k) rfl

/-- The class the reference picks: the first that attains the greatest score. -/
theorem s1_v5 (b : Fin 16) (n : Fin 8400) (g : Fin 80 → EReal)
    (hg : ∀ k, (V (Proc.devRef .tc main_v3) : Vec Ideal S16x8400x80 .f32) (ix3 b n k) = g k) :
    ∃ k : Fin 80, (after hostOps0_1 V (Proc.devRef .tc main_v5) : Vec Ideal S16x8400 .i32) (ix2 b n) = BitVec.ofNat 32 k.val
      ∧ (∀ k', g k' ≤ g k) ∧ ∀ k', g k' = g k → k ≤ k' := by
  have e : (after hostOps0_1 V (Proc.devRef .tc main_v5) : Vec Ideal S16x8400 .i32) (ix2 b n)
      = ((Host.argReduceFiber (V (Proc.devRef .tc main_v3) : Vec Ideal S16x8400x80 .f32) (iotaInDim S16x8400x80 32 2)
          reducesTo_S16x8400x80_S16x8400_d2 (ix2 b n)).foldl (reducer_argmax_f32_i32 (F := Ideal))
            (Ideal.ofBits .f32 0xFF800000#32, 0#32)).2 := by
    after_reads_simp
    simp -implicitDefEqProofs only [StableHlo.TRef.toBuf, StableHlo.TRef.ofBuf, cast_cast, cast_eq]
    rw [Ideal.argReduce_eq_reduce2, Host.reduce2_eq_foldl_fiber]
    rfl
  rw [e]
  have hm : ∀ p, p ∈ Host.argReduceFiber (V (Proc.devRef .tc main_v3) : Vec Ideal S16x8400x80 .f32) (iotaInDim S16x8400x80 32 2)
          reducesTo_S16x8400x80_S16x8400_d2 (ix2 b n) ↔ ∃ k : Fin 80, p = (g k, BitVec.ofNat 32 k.val) := by
    exact fiber_mem _ b n g hg
  generalize Host.argReduceFiber (V (Proc.devRef .tc main_v3) : Vec Ideal S16x8400x80 .f32) (iotaInDim S16x8400x80 32 2)
          reducesTo_S16x8400x80_S16x8400_d2 (ix2 b n) = L at hm
  have hb := best_fold (Ideal.ofBits .f32 0xFF800000#32, 0#32) L [] (Ideal.ofBits .f32 0xFF800000#32, 0#32)
    ⟨fun p hp => absurd hp (by simp), fun p hp => absurd hp (by simp), Or.inr rfl⟩
  rw [List.nil_append] at hb
  generalize L.foldl (reducer_argmax_f32_i32 (F := Ideal)) (Ideal.ofBits .f32 0xFF800000#32, 0#32) = r at hb
  obtain ⟨h1, h2, h3⟩ := hb
  have hin : ∀ k, (g k, BitVec.ofNat 32 k.val) ∈ L := fun k => (hm _).2 ⟨k, rfl⟩
  have key : ∃ k : Fin 80, r = (g k, BitVec.ofNat 32 k.val) := by
    rcases h3 with h3 | h3
    · exact (hm r).1 h3
    · refine ⟨0, ?_⟩
      have hbot : Ideal.ofBits .f32 0xFF800000#32 = ⊥ := by simp [Ideal.ofBits, Ideal.ieee]
      have := h1 _ (hin 0)
      rw [h3, hbot] at this
      have h0 : g 0 = ⊥ := le_bot_iff.1 this
      rw [h3, hbot, h0]
      rfl
  obtain ⟨k, rfl⟩ := key
  refine ⟨k, rfl, fun k' => h1 _ (hin k'), fun k' hk' => ?_⟩
  have := h2 _ (hin k') hk'
  rw [toInt_class, toInt_class] at this
  exact Fin.le_def.2 (by exact_mod_cast this)

end Cert.ReferenceIdeal.Val
-- ==== Proof.Val.Order.lean ====
module
public import Idealize.ShloMosaic.Lib.SortFacts
@[expose] public section

/-! A stable sort whose last positions go before none of the others: the sorted front is that of the
shorter list. -/

namespace Cert.Order
open Idealize.ShloMosaic

/-- Insertion stops at the latest in front of a tail none of which goes before the newcomer. -/
theorem insert_append {ι : Type} (R : ι → ι → Bool) (a : ι) (T : List ι) (h : ∀ t ∈ T, R t a = false) (S : List ι) :
    insertBefore R a (S ++ T) = insertBefore R a S ++ T := by
  induction S with
  | nil =>
    cases T with
    | nil => rfl
    | cons t T => simp [insertBefore, h t (by simp)]
  | cons s S ih =>
    show insertBefore R a (s :: (S ++ T)) = _
    simp only [insertBefore]
    split
    · rw [ih]; rfl
    · rfl

/-- The sort of a list with such a tail is the two sorts one after the other. -/
theorem sort_append {ι : Type} (R : ι → ι → Bool) (T : List ι) (L : List ι)
    (h : ∀ a ∈ L, ∀ t ∈ T, R t a = false) : stableSort R (L ++ T) = stableSort R L ++ stableSort R T := by
  induction L with
  | nil => rfl
  | cons a L ih =>
    show insertBefore R a (stableSort R (L ++ T)) = insertBefore R a (stableSort R L) ++ stableSort R T
    rw [ih fun b hb => h b (List.mem_cons_of_mem _ hb)]
    exact insert_append R a _ (fun t ht => h a (by simp) t ((perm_stableSort R T).mem_iff.1 ht)) _

/-- Insertion goes through a renaming. -/
theorem insert_map {ι κ : Type} (f : κ → ι) (R : ι → ι → Bool) (a : κ) (L : List κ) :
    insertBefore R (f a) (L.map f) = (insertBefore (fun x y => R (f x) (f y)) a L).map f := by
  induction L with
  | nil => rfl
  | cons b L ih =>
    simp only [List.map_cons, insertBefore]
    split
    · rw [ih]; rfl
    · rfl

/-- So does the sort. -/
theorem sort_map {ι κ : Type} (f : κ → ι) (R : ι → ι → Bool) (L : List κ) :
    stableSort R (L.map f) = (stableSort (fun x y => R (f x) (f y)) L).map f := by
  induction L with
  | nil => rfl
  | cons b L ih =>
    show insertBefore R (f b) (stableSort R (L.map f)) = _
    rw [ih, insert_map]; rfl

theorem finRange_split (n d : ℕ) :
    List.finRange (n + d) = (List.finRange n).map (Fin.castAdd d) ++ (List.finRange d).map (Fin.natAdd n) := by
  apply List.ext_getElem
  · simp
  · intro i h1 h2
    apply Fin.ext
    by_cases hi : i < n
    · simp [List.getElem_append, hi]
    · simp [List.getElem_append, hi]; omega

/-- Sorted position `k` of the longer sequence is that of the shorter one. -/
theorem sortedFrom_front (n d : ℕ) (R : Fin (n + d) → Fin (n + d) → Bool)
    (h : ∀ (t : Fin d) (a : Fin n), R (Fin.natAdd n t) (Fin.castAdd d a) = false) (k : Fin n) :
    sortedFrom R (Fin.castAdd d k)
      = Fin.castAdd d (sortedFrom (fun a b => R (Fin.castAdd d a) (Fin.castAdd d b)) k) := by
  have key : sortPositions (n + d) R
      = (sortPositions n fun a b => R (Fin.castAdd d a) (Fin.castAdd d b)).map (Fin.castAdd d)
        ++ stableSort R ((List.finRange d).map (Fin.natAdd n)) := by
    unfold sortPositions
    rw [finRange_split, sort_append, sort_map]
    intro a ha t ht
    obtain ⟨a', _, rfl⟩ := List.mem_map.1 ha
    obtain ⟨t', _, rfl⟩ := List.mem_map.1 ht
    exact h t' a'
  have hl : (sortPositions n fun a b => R (Fin.castAdd d a) (Fin.castAdd d b)).length = n := by
    unfold sortPositions; rw [length_stableSort, List.length_finRange]
  unfold sortedFrom
  simp only [List.get_eq_getElem, Fin.val_cast, Fin.val_castAdd, key]
  rw [List.getElem_append_left (by rw [List.length_map, hl]; exact k.isLt), List.getElem_map]

end Cert.Order
-- ==== Proof.Val.Pick.lean ====
/- Which candidates are taken, and what the second call reads of each. -/
module

public import proofs.«01_k».proof.Proof.Val.Regions
public import proofs.«01_k».proof.Proof.Val.Order

@[expose] public section

set_option maxRecDepth 16384

noncomputable section

namespace Cert.KernelIdeal.Val

open Cert.KernelIdeal.Gen Cert.KernelIdeal.Hand Cert.Greedy
open Idealize.ShloMosaic Idealize.ShloMosaic.TcCoe Idealize.ShloMosaic.Tactic

/-- The eight rows of candidate `n` of image `b`. -/
def cand (X : Vec Ideal S16x84x8400 .f32) (b : Fin 16) (n : Fin 8400) (r : Fin 8) : EReal :=
  tile (fun k => X (ix3 b (k.castLE (by decide)) n)) (fun k => X (ix3 b (k.natAdd 4) n)) r

/-- The candidate in place `j` of the order by descending score, ties by position. -/
def pick (X : Vec Ideal S16x84x8400 .f32) (b : Fin 16) (j : Fin 1024) : Fin 8400 :=
  sortedFrom (fun k k' => decide (cand X b k' 6 < cand X b k 6)) (j.castLE (by decide))

theorem sort2_at {s : Shape} (d : ℕ) (hd : d < s.rank) {α β : Type} (cmp : α × β → α × β → BitVec 1) (x : s.Idx → α)
    (y : s.Idx → β) (j : s.Idx) : (Host.sort2 s d cmp x y).2 j = y (j.along ⟨d, hd⟩ (sortedFrom
      (fun k k' => cmp (x (j.along ⟨d, hd⟩ k), y (j.along ⟨d, hd⟩ k)) (x (j.along ⟨d, hd⟩ k'), y (j.along ⟨d, hd⟩ k')) == 1#1)
      (j ⟨d, hd⟩))) := by
  unfold Host.sort2
  rw [dif_pos hd]

/-- The index array of a descending top-1024 over the lanes of sixteen rows. -/
theorem topK_index (N : ℕ) (hN : 1024 ≤ N) (x : (⟨2, ![16, N]⟩ : Shape).Idx → EReal)
    (h : (⟨2, ![16, N]⟩ : Shape).Slices (fun _ => 0) ⟨2, ![16, 1024]⟩) (b : Fin 16) (j : Fin 1024) :
    (Host.topK ⟨2, ![16, 1024]⟩ 1 (FloatOps.cmpfTotal (F := Ideal) (φ := .f32) .gt) x h).2 (ix2 b j)
      = BitVec.ofNat 32 (sortedFrom (fun k k' => decide (x (ix2 b k') < x (ix2 b k))) (j.castLE hN)).val := by
  have e1 : ∀ (a : Fin N) (k : Fin N), Shape.Idx.along (s := ⟨2, ![16, N]⟩) (ix2 b a) 1 k = ix2 b k := by
    intro a k
    unfold Shape.Idx.along
    funext q
    fin_cases q
    · rfl
    · rfl
  have e0 : (fun a : Fin 2 => (⟨0 + ((ix2 b j : (⟨2, ![16, 1024]⟩ : Shape).Idx) (a.cast h.1.symm)).val,
      Nat.lt_of_lt_of_le (Nat.add_lt_add_left (Fin.isLt _) _) (h.2 a)⟩ : Fin ((⟨2, ![16, N]⟩ : Shape).size a)))
      = ix2 b (j.castLE hN) := by
    funext q
    fin_cases q
    · exact Fin.ext (Nat.zero_add _)
    · exact Fin.ext (Nat.zero_add _)
  have e2 : ∀ u v : EReal, (FloatOps.cmpfTotal (F := Ideal) (φ := .f32) .gt u v == 1#1) = decide (v < u) := by
    intro u v
    show (BitVec.ofBool (decide (v < u)) == 1#1) = _
    cases decide (v < u) <;> rfl
  unfold Host.topK extractStridedSlice
  dsimp only
  refine (congrArg _ e0).trans ?_
  refine (sort2_at (s := ⟨2, ![16, N]⟩) 1 (by decide : 1 < 2) _ x _ (ix2 b (j.castLE hN))).trans ?_
  refine (congrArg (BitVec.ofNat 32) (congrArg Fin.val ?_ : _) : iotaInDim ⟨2, ![16, N]⟩ 32 (1 : Fin 2) _ = _)
  refine (Function.update_self _ _ _).trans ?_
  refine congrArg (fun R => sortedFrom R (j.castLE hN)) ?_
  funext k k'
  refine (e2 _ _).trans ?_
  exact congrArg₂ (fun u v => decide (x u < x v)) (e1 _ _) (e1 _ _)

theorem ofBits_quarter : Ideal.ofBits .f32 0x3E800000#32 = ((1 / 4 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num
theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-- No candidate's score is below minus one. -/
theorem score_ge (b : Fin 4 → EReal) (g : Fin 80 → EReal) : ((-1 : ℝ) : EReal) ≤ tile b g 6 := by
  show _ ≤ (if _ then _ else _)
  split
  · rename_i h
    refine le_trans ?_ (le_of_lt h)
    rw [ofBits_quarter]
    exact_mod_cast (by norm_num : (-1 : ℝ) ≤ 1 / 4)
  · rw [ofBits_neg_one]

/-- The score of an all-zero column is minus one. -/
theorem score_pad : tile (fun _ => 0) (fun _ => 0) 6 = ((-1 : ℝ) : EReal) := by
  show (if _ < Finset.univ.fold max _ (fun _ : Fin 80 => (0 : EReal)) then _ else _) = _
  rw [if_neg, ofBits_neg_one]
  rw [not_lt, Finset.fold_max_le, ofBits_quarter, ofBits_bot]
  exact ⟨bot_le, fun _ _ => by exact_mod_cast (by norm_num : (0 : ℝ) ≤ 1 / 4)⟩

theorem chan_in (X : Vec Ideal S16x84x8400 .f32) (b : Fin 16) (n : ℕ) (hn : n < 8400) (k : Fin 84) :
    chan (image X b) n k = X (ix3 b k ⟨n, hn⟩) := by
  unfold chan; rw [dif_pos hn]; rfl

theorem chan_out (X : Vec Ideal S16x84x8400 .f32) (b : Fin 16) (n : ℕ) (hn : ¬ n < 8400) (k : Fin 84) :
    chan (image X b) n k = 0 := by
  unfold chan; rw [dif_neg hn]

/-- What the packed array holds in row `r` of place `n`. -/
theorem packed_in (X : Vec Ideal S16x84x8400 .f32) (b : Fin 16) (n : ℕ) (hn : n < 8400) (r : Fin 8) :
    packedAll X (ix4 b ⟨n / 128, by omega⟩ r ⟨n % 128, Nat.mod_lt _ (by decide)⟩) = cand X b ⟨n, hn⟩ r := by
  show tile (fun k => chan (image X b) (128 * (n / 128) + n % 128) _) (fun k => chan (image X b) (128 * (n / 128) + n % 128) _) r = _
  rw [Nat.div_add_mod]
  simp only [chan_in X b n hn]
  rfl

theorem scores_in (X : Vec Ideal S16x84x8400 .f32) (b : Fin 16) (n : Fin 8400) :
    scoresAll X (ix2 b (Fin.castAdd 48 n)) = cand X b n 6 := packed_in X b n.val n.isLt 6

theorem scores_out (X : Vec Ideal S16x84x8400 .f32) (b : Fin 16) (t : Fin 48) :
    scoresAll X (ix2 b (Fin.natAdd 8400 t)) = ((-1 : ℝ) : EReal) := by
  show tile (fun k => chan (image X b) (128 * ((8400 + t.val) / 128) + (8400 + t.val) % 128) (k.castLE (by decide)))
    (fun k => chan (image X b) (128 * ((8400 + t.val) / 128) + (8400 + t.val) % 128) (k.natAdd 4)) 6 = _
  rw [Nat.div_add_mod]
  simp only [chan_out X b (8400 + t.val) (by omega)]
  exact score_pad

/-- The order the second call is given: place `j` holds the picked candidate. -/
theorem word_at (X : Vec Ideal S16x84x8400 .f32) (b : Fin 16) (j : Fin 1024) :
    wordAt (orderOf (orderAll X) b) j = (pick X b j).val := by
  have hj : (⟨128 * (j.val / 128) + j.val % 128, by omega⟩ : Fin 1024) = j := Fin.ext (Nat.div_add_mod _ _)
  have e : (orderOf (orderAll X) b) (ix3 0 ⟨j.val / 128, by omega⟩ ⟨j.val % 128, Nat.mod_lt _ (by decide)⟩)
      = BitVec.ofNat 32 (pick X b j).val := by
    show (Host.topK S16x1024 1 (FloatOps.cmpfTotal (F := Ideal) (φ := .f32) .gt) (scoresAll X) sliceFits_S16x8448_S16x1024).2
      (ix2 b ⟨128 * (j.val / 128) + j.val % 128, _⟩) = _
    rw [hj]
    refine (topK_index 8448 (by decide) (scoresAll X) sliceFits_S16x8448_S16x1024 b j).trans ?_
    refine congrArg (BitVec.ofNat 32) ?_
    have := Order.sortedFrom_front 8400 48 (fun k k' => decide (scoresAll X (ix2 b k') < scoresAll X (ix2 b k))) (by
      intro t a
      rw [scores_in, scores_out]
      exact decide_eq_false (not_lt.2 (score_ge _ _))) (j.castLE (by decide))
    refine (congrArg Fin.val this).trans ?_
    rw [Fin.val_castAdd]
    unfold pick
    simp only [scores_in]
  unfold wordAt
  rw [e, BitVec.toNat_ofNat]
  exact Nat.mod_eq_of_lt (lt_trans (pick X b j).isLt (by norm_num))

/-- The columns the second call works on are the picked candidates. -/
theorem chosen_at (X : Vec Ideal S16x84x8400 .f32) (b : Fin 16) (r : Fin 8) (j : Fin 1024) :
    chosen X b (ix2 r j) = cand X b (pick X b j) r := by
  have hw := word_at X b j
  have hlt : wordAt (orderOf (orderAll X) b) j < 8448 := by rw [hw]; have := (pick X b j).isLt; omega
  refine (rows_at (packedOf (packedAll X) b) (orderOf (orderAll X) b) r j hlt).trans ?_
  show packedAll X (ix4 b _ r _) = _
  have key : ∀ (w : ℕ) (hlt : w < 8448) (n : Fin 8400), w = n.val →
      packedAll X (ix4 b ⟨w / 128, by omega⟩ r ⟨w % 128, Nat.mod_lt _ (by decide)⟩) = cand X b n r := by
    intro w hlt n hn
    subst hn
    exact packed_in X b n.val n.isLt r
  exact key _ hlt _ hw

end Cert.KernelIdeal.Val
-- ==== Proof.Val.RefE.lean ====
/- What the reference's buffers hold when its loop begins, in the same terms as the kernel's candidates. -/
module

public import proofs.«01_k».proof.Proof.Val.RefB
public import proofs.«01_k».proof.Proof.Val.RefC
public import proofs.«01_k».proof.Proof.Val.RefD
public import proofs.«01_k».proof.Proof.Val.Pick

@[expose] public section

set_option maxRecDepth 16384

noncomputable section

namespace Cert.ReferenceIdeal.Val

open Cert.ReferenceIdeal.Gen Cert.ReferenceIdeal.Value
open Cert.KernelIdeal.Val (cand pick tile select_ofBool topK_index)
open Idealize.ShloMosaic Idealize.ShloMosaic.StableHlo Idealize.ShloMosaic.TcCoe Idealize.ShloMosaic.Tactic

variable (V : Vals)

/-- The stretches before the loop, one after the other. -/
def at1 : Vals := after hostOps0 V
def at2 : Vals := after hostOps0_1 (at1 V)
def at3 : Vals := after hostOps0_2 (at2 V)
def at4 : Vals := after hostOps0_3 (at3 V)
def at5 : Vals := after hostOps0_4 (at4 V)
def at6 : Vals := after hostOps0_5 (at5 V)
def at7 : Vals := after hostOps0_6 (at6 V)
def at8 : Vals := after hostOps0_7 (at7 V)
def at9 : Vals := after hostOps0_8 (at8 V)
def at10 : Vals := after hostOps0_9 (at9 V)
def atLoop : Vals := after hostOps0_10 (at10 V)

theorem keep2 (r : Ref sig .tc) (h : r ∉ hostOps0_1_W) : at2 V (Proc.devRef .tc r) = at1 V (Proc.devRef .tc r) :=
  after_of_writes_sub _ _ hostOps0_1_writes h
theorem keep3 (r : Ref sig .tc) (h : r ∉ hostOps0_2_W) : at3 V (Proc.devRef .tc r) = at2 V (Proc.devRef .tc r) :=
  after_of_writes_sub _ _ hostOps0_2_writes h
theorem keep4 (r : Ref sig .tc) (h : r ∉ hostOps0_3_W) : at4 V (Proc.devRef .tc r) = at3 V (Proc.devRef .tc r) :=
  after_of_writes_sub _ _ hostOps0_3_writes h
theorem keep5 (r : Ref sig .tc) (h : r ∉ hostOps0_4_W) : at5 V (Proc.devRef .tc r) = at4 V (Proc.devRef .tc r) :=
  after_of_writes_sub _ _ hostOps0_4_writes h
theorem keep6 (r : Ref sig .tc) (h : r ∉ hostOps0_5_W) : at6 V (Proc.devRef .tc r) = at5 V (Proc.devRef .tc r) :=
  after_of_writes_sub _ _ hostOps0_5_writes h
theorem keep7 (r : Ref sig .tc) (h : r ∉ hostOps0_6_W) : at7 V (Proc.devRef .tc r) = at6 V (Proc.devRef .tc r) :=
  after_of_writes_sub _ _ hostOps0_6_writes h
theorem keep8 (r : Ref sig .tc) (h : r ∉ hostOps0_7_W) : at8 V (Proc.devRef .tc r) = at7 V (Proc.devRef .tc r) :=
  after_of_writes_sub _ _ hostOps0_7_writes h
theorem keepL (r : Ref sig .tc) (h8 : r ∉ hostOps0_8_W) (h9 : r ∉ hostOps0_9_W) (h10 : r ∉ hostOps0_10_W) :
    atLoop V (Proc.devRef .tc r) = at8 V (Proc.devRef .tc r) :=
  ((after_of_writes_sub _ _ hostOps0_10_writes h10).trans (after_of_writes_sub _ _ hostOps0_9_writes h9)).trans
    (after_of_writes_sub _ _ hostOps0_8_writes h8)

/-- The predictions. -/
abbrev input : S16x84x8400.Idx → EReal := (V (Proc.devRef .tc main_arg0) : Vec Ideal S16x84x8400 .f32)

theorem conf1 (b : Fin 16) (n : Fin 8400) : (at1 V (Proc.devRef .tc main_v4) : Vec Ideal S16x8400 .f32) (ix2 b n) = cand (input V) b n 4 :=
  s0_v4 V b n

theorem conf2 : at2 V (Proc.devRef .tc main_v4) = at1 V (Proc.devRef .tc main_v4) := keep2 V _ (by decide)
theorem conf3 : at3 V (Proc.devRef .tc main_v4) = at1 V (Proc.devRef .tc main_v4) := (keep3 V _ (by decide)).trans (conf2 V)
theorem conf4 : at4 V (Proc.devRef .tc main_v4) = at1 V (Proc.devRef .tc main_v4) := (keep4 V _ (by decide)).trans (conf3 V)
theorem conf5 : at5 V (Proc.devRef .tc main_v4) = at1 V (Proc.devRef .tc main_v4) := (keep5 V _ (by decide)).trans (conf4 V)
theorem conf6 : at6 V (Proc.devRef .tc main_v4) = at1 V (Proc.devRef .tc main_v4) := (keep6 V _ (by decide)).trans (conf5 V)

theorem cls7 : at7 V (Proc.devRef .tc main_v5) = at2 V (Proc.devRef .tc main_v5) :=
  (keep7 V _ (by decide)).trans ((keep6 V _ (by decide)).trans ((keep5 V _ (by decide)).trans ((keep4 V _ (by decide)).trans (keep3 V _ (by decide)))))

theorem box3 (b : Fin 16) (n : Fin 8400) (k : Fin 4) : (at3 V (Proc.devRef .tc main_v30) : Vec Ideal S16x8400x4 .f32) (ix3 b n k)
    = cand (input V) b n (k.castLE (by decide)) := by
  refine (s2_v30 (at2 V) b n k).trans ?_
  rw [keep2 V main_v1 (by decide)]
  have : (fun k : Fin 4 => (at1 V (Proc.devRef .tc main_v1) : Vec Ideal S16x8400x4 .f32) (ix3 b n k))
      = fun k => input V (ix3 b (k.castLE (by decide)) n) := funext fun k => s0_v1 V b n k
  rw [this]
  fin_cases k <;> rfl

theorem box5 : at5 V (Proc.devRef .tc main_v30) = at3 V (Proc.devRef .tc main_v30) := (keep5 V _ (by decide)).trans (keep4 V _ (by decide))

theorem score_of (s : BitVec 1) (p q t : EReal) (hs : s = Ideal.cmp .ogt t (Ideal.ofBits FTy.f32 0x3E800000#32)) (hp : p = t)
    (hq : q = Ideal.ofBits FTy.f32 0xBF800000#32) :
    Scalar.select s p q = if Ideal.ofBits FTy.f32 0x3E800000#32 < t then t else Ideal.ofBits FTy.f32 0xBF800000#32 := by
  subst hs hp hq
  by_cases h : Ideal.ofBits FTy.f32 0x3E800000#32 < p <;> simp [Ideal.cmp, Scalar.select, h]

theorem score4 (b : Fin 16) (n : Fin 8400) : (at4 V (Proc.devRef .tc main_v33) : Vec Ideal S16x8400 .f32) (ix2 b n) = cand (input V) b n 6 := by
  refine (s3_v33 (at3 V) b n).trans ?_
  have h4 : (at2 V (Proc.devRef .tc main_v4) : Vec Ideal S16x8400 .f32) (ix2 b n) = cand (input V) b n 4 := by
    rw [conf2]; exact conf1 V b n
  have h4' : (at3 V (Proc.devRef .tc main_v4) : Vec Ideal S16x8400 .f32) (ix2 b n) = cand (input V) b n 4 := by
    rw [conf3]; exact conf1 V b n
  have h32 := (s2_v32 (at2 V) b n).trans (congrArg (fun p => Ideal.cmp .ogt p (Ideal.ofBits FTy.f32 0x3E800000#32)) h4)
  have hc : (at3 V (Proc.devRef .tc main_cst_5) : Vec Ideal S_ .f32) ix0 = Ideal.ofBits FTy.f32 0xBF800000#32 := congrFun (s2_cst_5 (at2 V)) ix0
  exact score_of _ _ _ _ h32 h4' hc

theorem pick_of (X : S16x84x8400.Idx → EReal) (x : S16x8400.Idx → EReal) (b : Fin 16) (j : Fin 1024)
    (h : ∀ n, x (ix2 b n) = cand X b n 6) :
    BitVec.ofNat 32 (sortedFrom (fun k k' => decide (x (ix2 b k') < x (ix2 b k))) (j.castLE (by decide))).val
      = BitVec.ofNat 32 (pick X b j).val := by
  unfold pick
  simp only [h]

theorem index5 (b : Fin 16) (j : Fin 1024) : (at5 V (Proc.devRef .tc main_indices) : Vec Ideal S16x1024 .i32) (ix2 b j)
    = BitVec.ofNat 32 (pick (input V) b j).val := by
  refine (congrFun (s4_idx (at4 V)) (ix2 b j)).trans ?_
  refine (topK_index 8400 (by decide) _ sliceFits_S16x8400_S16x1024 b j).trans ?_
  exact pick_of _ _ b j fun n => score4 V b n

theorem index34 (b : Fin 16) (j : Fin 1024) : (at5 V (Proc.devRef .tc main_v34) : Vec Ideal S16x1024x1 .i32) (ix3 b j 0)
    = BitVec.ofNat 32 (pick (input V) b j).val :=
  (s4_v34 (at4 V) b j).trans ((congrFun (s4_idx (at4 V)) (ix2 b j)).symm.trans (index5 V b j))

theorem index6 : at6 V (Proc.devRef .tc main_indices) = at5 V (Proc.devRef .tc main_indices) := keep6 V _ (by decide)
theorem index7 : at7 V (Proc.devRef .tc main_indices) = at5 V (Proc.devRef .tc main_indices) := (keep7 V _ (by decide)).trans (index6 V)

theorem box6 (b : Fin 16) (j : Fin 1024) (k : Fin 4) : (at6 V (Proc.devRef .tc main_v35) : Vec Ideal S16x1024x4 .f32) (ix3 b j k)
    = cand (input V) b (pick (input V) b j) (k.castLE (by decide)) := by
  refine (s5_v35 (at5 V) b j k _ (index34 V b j)).trans ?_
  rw [box5]
  exact box3 V b _ k

theorem box8 : at8 V (Proc.devRef .tc main_v35) = at6 V (Proc.devRef .tc main_v35) := (keep8 V _ (by decide)).trans (keep7 V _ (by decide))

/-- The corners of the boxes in place, at the loop. -/
theorem boxL (b : Fin 16) (j : Fin 1024) (k : Fin 4) : (atLoop V (Proc.devRef .tc main_v35) : Vec Ideal S16x1024x4 .f32) (ix3 b j k)
    = cand (input V) b (pick (input V) b j) (k.castLE (by decide)) := by
  rw [keepL V main_v35 (by decide) (by decide) (by decide), box8]
  exact box6 V b j k

theorem conf7 (b : Fin 16) (j : Fin 1024) : (at7 V (Proc.devRef .tc main_v36) : Vec Ideal S16x1024 .f32) (ix2 b j)
    = cand (input V) b (pick (input V) b j) 4 := by
  refine (s6_v36 (at6 V) b j _ ((congrFun (index6 V) (ix2 b j)).trans (index5 V b j))).trans ?_
  rw [conf6]
  exact conf1 V b _

/-- Their confidences. -/
theorem confL (b : Fin 16) (j : Fin 1024) : (atLoop V (Proc.devRef .tc main_v36) : Vec Ideal S16x1024 .f32) (ix2 b j)
    = cand (input V) b (pick (input V) b j) 4 := by
  rw [keepL V main_v36 (by decide) (by decide) (by decide), keep8 V main_v36 (by decide)]
  exact conf7 V b j

/-- Their classes: the first class of the greatest score. -/
theorem clsL (b : Fin 16) (j : Fin 1024) : ∃ k : Fin 80, (atLoop V (Proc.devRef .tc main_v37) : Vec Ideal S16x1024 .i32) (ix2 b j) = BitVec.ofNat 32 k.val
    ∧ (∀ k' : Fin 80, input V (ix3 b (k'.natAdd 4) (pick (input V) b j)) ≤ input V (ix3 b (k.natAdd 4) (pick (input V) b j)))
    ∧ ∀ k' : Fin 80, input V (ix3 b (k'.natAdd 4) (pick (input V) b j)) = input V (ix3 b (k.natAdd 4) (pick (input V) b j)) → k ≤ k' := by
  obtain ⟨k, h1, h2⟩ := s1_v5 (at1 V) b (pick (input V) b j) (fun k => input V (ix3 b (k.natAdd 4) (pick (input V) b j)))
    (fun k => s0_v3 V b _ k)
  refine ⟨k, ?_, h2⟩
  rw [keepL V main_v37 (by decide) (by decide) (by decide)]
  refine (s7_v37 (at7 V) b j _ ((congrFun (index7 V) (ix2 b j)).trans (index5 V b j))).trans ?_
  rw [cls7]
  exact h1

/-- The overlap table at the loop. -/
theorem iouL (b : Fin 16) (i j : Fin 1024) : (atLoop V (Proc.devRef .tc main_v81_0) : Vec Ideal S16x1024x1024 .f32) (ix3 b i j)
    = iou (fun k => cand (input V) b (pick (input V) b i) (k.castLE (by decide)))
        (fun k => cand (input V) b (pick (input V) b j) (k.castLE (by decide))) := by
  refine (s10_iou (at8 V) b i j).trans ?_
  have h : ∀ j, boxAt (at8 V) b j = fun k => cand (input V) b (pick (input V) b j) (k.castLE (by decide)) := by
    intro j
    funext k
    unfold boxAt
    rw [box8]
    exact box6 V b j k
  rw [h, h]

theorem entry_eq (m : (ℓ : Loc nD τ sig) → Buf (Elt Ideal) ℓ) (c : Dev nD) : entryContents preI m c = atLoop (launchContents m c) := rfl

end Cert.ReferenceIdeal.Val
-- ==== Proof.Val.RefF.lean ====
/- The reference's loop: after its 1024 trips the flags are the greedy choice, and the flags of the results follow. -/
module

public import proofs.«01_k».proof.Proof.Val.RefE
public import proofs.«01_k».proof.Proof.Ref

@[expose] public section

set_option maxRecDepth 16384

noncomputable section

namespace Cert.ReferenceIdeal.Val

open Cert.ReferenceIdeal.Gen Cert.ReferenceIdeal.Value Cert.Greedy
open Cert.KernelIdeal.Val (cand pick tile select_ofBool over against boxesOf kept chosen chosen_at)
open Idealize.ShloMosaic Idealize.ShloMosaic.StableHlo Idealize.ShloMosaic.TcCoe Idealize.ShloMosaic.Tactic

theorem over_iff (p q : Fin 4 → EReal) : Ideal.ofBits FTy.f32 0x3EE66666#32 < iou p q ↔ over p q := by
  unfold iou over
  simp only [max_comm (0 : EReal)]

theorem ofBool_congr (P Q : Prop) (hP : Decidable P) (hQ : Decidable Q) (h : P ↔ Q) :
    BitVec.ofBool (@decide P hP) = BitVec.ofBool (@decide Q hQ) :=
  congrArg BitVec.ofBool (decide_eq_decide.mpr h)

theorem step_bit (P Q O L R : Prop) (hP : Decidable P) (hQ : Decidable Q) (hO : Decidable O) (hL : Decidable L) (hR : Decidable R)
    (s o l q : BitVec 1) (hs : s = BitVec.ofBool (@decide P hP)) (ho : o = BitVec.ofBool (@decide O hO)) (hl : l = BitVec.ofBool (@decide L hL))
    (hq : q = BitVec.ofBool (@decide Q hQ)) (h : R ↔ (P → ¬ (L ∧ O)) ∧ Q) :
    Scalar.select s (IntOp.andi q (~~~ IntOp.andi o l)) q = BitVec.ofBool (@decide R hR) := by
  subst hs ho hl hq
  rw [ofBool_congr R _ hR inferInstance h]
  by_cases hP : P <;> by_cases hQ : Q <;> by_cases hO : O <;> by_cases hL : L <;> simp [hP, hQ, hO, hL, IntOp.andi, Scalar.select]

open Classical in
/-- After `t` trips the flags are what the walk of the first `t` candidates leaves. -/
theorem trips (E : Vals) (B : Fin 16 → Fin 1024 → Fin 4 → EReal)
    (hiou : ∀ b i j, (E (Proc.devRef .tc main_v81_0) : Vec Ideal S16x1024x1024 .f32) (ix3 b i j) = iou (B b i) (B b j))
    (hi : ∀ j : Fin 1024, (E (Proc.devRef .tc main_v81_1) : Vec Ideal S1024 .i32) (ix1 j) = BitVec.ofNat 32 j.val)
    (hc : (E (Proc.devRef .tc main_v81_3) : Vec Ideal S_ .i32) = fun _ => 0#32)
    (hk : ∀ (b : Fin 16) (j : Fin 1024), (E (Proc.devRef .tc main_v81_4) : Vec Ideal S16x1024 .i1) (ix2 b j) = 1#1) :
    ∀ t, t ≤ 1024 →
      (STEP^[t] E) (Proc.devRef .tc main_v81_0) = E (Proc.devRef .tc main_v81_0)
      ∧ (STEP^[t] E) (Proc.devRef .tc main_v81_1) = E (Proc.devRef .tc main_v81_1)
      ∧ ((STEP^[t] E) (Proc.devRef .tc main_v81_3) : Vec Ideal S_ .i32) = (fun _ => BitVec.ofNat 32 t)
      ∧ ∀ (b : Fin 16) (j : Fin 1024), ((STEP^[t] E) (Proc.devRef .tc main_v81_4) : Vec Ideal S16x1024 .i1) (ix2 b j)
          = BitVec.ofBool (decide (walk (against (B b)) t j))
  | 0, _ => ⟨rfl, rfl, hc, fun b j => (hk b j).trans (by rw [show walk (against (B b)) 0 j = True from rfl]; simp)⟩
  | t + 1, ht => by
    obtain ⟨h0, h1, h3, h4⟩ := trips E B hiou hi hc hk t (by omega)
    rw [Function.iterate_succ_apply']
    generalize STEP^[t] E = S at h0 h1 h3 h4
    refine ⟨(STEP_main_v81_0 S).trans h0, (STEP_main_v81_1 S).trans h1, ?_, fun b j => ?_⟩
    · refine (STEP_main_v81_3 S).trans ?_
      funext y
      show IntOp.addi ((S (Proc.devRef .tc main_v81_3) : Vec Ideal S_ .i32) y) 1#32 = _
      rw [h3]
      exact (BitVec.ofNat_add t 1).symm
    · refine (congrFun (STEP_main_v81_4 S) (ix2 b j)).trans ?_
      refine (step_keep S ⟨t, ht⟩ b j h3 (fun j => (congrFun h1 (ix1 j)).trans (hi j))).trans ?_
      have ho : (S (Proc.devRef .tc main_v81_0) : Vec Ideal S16x1024x1024 .f32) (ix3 b ⟨t, ht⟩ j) = iou (B b ⟨t, ht⟩) (B b j) :=
        (congrFun h0 _).trans (hiou b _ j)
      refine step_bit (walk (against (B b)) t ⟨t, ht⟩) (walk (against (B b)) t j) (over (B b ⟨t, ht⟩) (B b j)) (⟨t, ht⟩ < j) _
        (propDecidable _) (propDecidable _) (propDecidable _) inferInstance _ _ _ _ _ (h4 b _) (ofBool_congr _ _ _ _ ?_) rfl (h4 b j) ?_
      · rw [ho]
        exact over_iff _ _
      · rw [walk]
        beta_reduce
        rw [dif_pos (show t < 1024 from ht)]
        exact Iff.rfl

variable (m : (ℓ : Loc nD τ sig) → Buf (Elt Ideal) ℓ) (c : Dev nD)

/-- The predictions held at the launch. -/
abbrev preds : S16x84x8400.Idx → EReal := input (launchContents m c)

/-- What the buffers hold after the loop. -/
def atEnd : Vals := after condOps (atK m 1024 c)

theorem boxes_eq (X : S16x84x8400.Idx → EReal) (b : Fin 16) : (fun j k => cand X b (pick X b j) (Fin.castLE (by decide) k)) = boxesOf (chosen X b) := by
  funext j k
  unfold boxesOf
  exact (chosen_at X b _ j).symm

theorem against_lt (B : Fin 1024 → Fin 4 → EReal) (i j : Fin 1024) (h : against B i j) : i < j := h.1

open Classical in
/-- The flags after the loop are the greedy choice. -/
theorem flags_end (b : Fin 16) (j : Fin 1024) : (atEnd m c (Proc.devRef .tc main_v81_4) : Vec Ideal S16x1024 .i1) (ix2 b j)
    = BitVec.ofBool (decide (greedy (against (boxesOf (chosen (preds m c) b))) j)) := by
  unfold atEnd
  rw [cond_keeps (atK m 1024 c) main_v81_4 (by decide), atK_agree m c 1024 main_v81_4 (by decide), entry_eq]
  refine ((trips (atLoop (launchContents m c)) (fun b j k => cand (preds m c) b (pick (preds m c) b j) (k.castLE (by decide)))
    (iouL _) (s10_iota _) (s10_ctr _) (s10_keep _) 1024 (le_refl _)).2.2.2 b j).trans ?_
  refine ofBool_congr _ _ _ _ ?_
  rw [boxes_eq]
  exact walk_greedy (against_lt _) j

theorem keep_end (r : Ref sig .tc) (h0 : r ∉ condOps_W) (h1 : r ∉ while0Ops0_W) (h2 : r ∉ while0Ops0_1_W) (h3 : r ∉ while0Ops0_2_W) :
    atEnd m c (Proc.devRef .tc r) = atLoop (launchContents m c) (Proc.devRef .tc r) :=
  (after_of_writes_sub _ _ condOps_writes h0).trans ((Hand.atK_keep m c r h0 h1 h2 h3 1024).trans (congrFun (entry_eq m c) _))

theorem box_end (b : Fin 16) (j : Fin 1024) (k : Fin 4) : (atEnd m c (Proc.devRef .tc main_v35) : Vec Ideal S16x1024x4 .f32) (ix3 b j k)
    = boxesOf (chosen (preds m c) b) j k := by
  rw [keep_end m c main_v35 (by decide) (by decide) (by decide) (by decide), ← boxes_eq]
  exact boxL _ b j k

theorem conf_end (b : Fin 16) (j : Fin 1024) : (atEnd m c (Proc.devRef .tc main_v36) : Vec Ideal S16x1024 .f32) (ix2 b j)
    = chosen (preds m c) b (ix2 4 j) := by
  rw [keep_end m c main_v36 (by decide) (by decide) (by decide) (by decide), chosen_at]
  exact confL _ b j

theorem and_bit (P Q : Prop) [Decidable P] [Decidable Q] [Decidable (P ∧ Q)] :
    IntOp.andi (BitVec.ofBool (decide P)) (BitVec.ofBool (decide Q)) = BitVec.ofBool (decide (P ∧ Q)) := by
  by_cases hP : P <;> by_cases hQ : Q <;> simp [hP, hQ, IntOp.andi]

open Classical in
/-- The flag of a result. -/
theorem keepBit_end (b : Fin 16) (j : Fin 1024) : keepBit (atEnd m c) b j = BitVec.ofBool (decide (kept (chosen (preds m c) b) j)) := by
  unfold keepBit
  rw [flags_end, conf_end]
  refine (and_bit _ _).trans (ofBool_congr _ _ _ _ Iff.rfl)

theorem final_eq : finalContents condOps preI bodyI postI 1024 m c = afterL postI (atEnd m c) := rfl

end Cert.ReferenceIdeal.Val
-- ==== Proof.Val.RefRun.lean ====
/- The reference's run: its four results are the kernel's, from the same predictions. -/
module

public import proofs.«01_k».proof.Proof.Val.RefF

@[expose] public section

set_option maxRecDepth 16384

noncomputable section

namespace Cert.ReferenceIdeal.Val

open Cert.ReferenceIdeal.Gen Cert.ReferenceIdeal.Value Cert.Greedy
open Cert.KernelIdeal.Val (cand pick tile select_ofBool boxesOf kept chosen chosen_at outXY outConf outCls outKeep resXY_at resConf_at resCls_at resKeep_at
  ofBits_neg_one ofBits_top ofBits_bot)
open Idealize.ShloMosaic Idealize.ShloMosaic.StableHlo Idealize.ShloMosaic.TcCoe Idealize.ShloMosaic.Tactic
open Idealize.SL.Sem

/-- A class number as a number. -/
theorem class_toInt (k : Fin 80) : (BitVec.ofNat 32 k.val).toInt = (k.val : ℤ) := by
  revert k; decide

/-- Reading a class number back. -/
theorem fptosi_class (k : Fin 80) : Ideal.fptosi 32 (((k.val : ℤ) : ℝ) : EReal) = BitVec.ofNat 32 k.val := by
  show BitVec.ofInt 32 (max _ (min _ (if (0 : ℝ) ≤ ((k.val : ℤ) : ℝ) then ⌊((k.val : ℤ) : ℝ)⌋ else ⌈((k.val : ℤ) : ℝ)⌉))) = _
  rw [Int.floor_intCast, Int.ceil_intCast, ite_self]
  revert k; decide

theorem fptosi_none : Ideal.fptosi 32 (Ideal.ofBits .f32 0xBF800000#32) = 4294967295#32 := by
  rw [ofBits_neg_one]
  show BitVec.ofInt 32 (max _ (min _ (if (0 : ℝ) ≤ (-1 : ℝ) then ⌊(-1 : ℝ)⌋ else ⌈(-1 : ℝ)⌉))) = _
  have e : (-1 : ℝ) = ((-1 : ℤ) : ℝ) := by norm_num
  rw [e, Int.floor_intCast, Int.ceil_intCast, ite_self]
  decide

/-- The first class of the greatest score, found as the least of the numbers of the classes that reach it. -/
theorem least_class (p : Fin 4 → EReal) (g : Fin 80 → EReal) (k : Fin 80) (h1 : ∀ k', g k' ≤ g k) (h2 : ∀ k', g k' = g k → k ≤ k') :
    tile p g 5 = (((k.val : ℤ) : ℝ) : EReal) := by
  have hc : Finset.univ.fold max (Ideal.ofBits FTy.f32 0xFF800000#32) g = g k := by
    apply le_antisymm
    · rw [Finset.fold_max_le]
      exact ⟨by rw [ofBits_bot]; exact bot_le, fun x _ => h1 x⟩
    · rw [Finset.le_fold_max]
      exact Or.inr ⟨k, Finset.mem_univ _, le_refl _⟩
  show Finset.univ.fold min (Ideal.ofBits FTy.f32 0x7F800000#32)
      (fun k' : Fin 80 => if g k' = Finset.univ.fold max (Ideal.ofBits FTy.f32 0xFF800000#32) g
        then FloatOps.sitofp (F := Ideal) FTy.f32 (BitVec.ofNat 32 k'.val) else Ideal.ofBits FTy.f32 0x4E6E6B28#32) = _
  rw [hc]
  have hs : ∀ k' : Fin 80, FloatOps.sitofp (F := Ideal) FTy.f32 (BitVec.ofNat 32 k'.val) = (((k'.val : ℤ) : ℝ) : EReal) := by
    intro k'
    show ((((BitVec.ofNat 32 k'.val).toInt : ℤ) : ℝ) : EReal) = _
    rw [class_toInt]
  have hbig : (((k.val : ℤ) : ℝ) : EReal) ≤ Ideal.ofBits FTy.f32 0x4E6E6B28#32 := by
    have e : Ideal.ofBits FTy.f32 0x4E6E6B28#32 = ((1000000000 : ℝ) : EReal) := by
      simp [Ideal.ofBits, Ideal.ieee, -EReal.coe_mul]; norm_num
    rw [e]
    have := k.isLt
    exact_mod_cast (show (k.val : ℤ) ≤ 1000000000 by omega)
  apply le_antisymm
  · rw [Finset.fold_min_le]
    refine Or.inr ⟨k, Finset.mem_univ _, ?_⟩
    rw [if_pos rfl, hs]
  · rw [Finset.le_fold_min]
    refine ⟨by rw [ofBits_top]; exact le_top, fun x _ => ?_⟩
    by_cases hx : g x = g k
    · rw [if_pos hx, hs]
      have := h2 x hx
      exact_mod_cast (show (k.val : ℤ) ≤ x.val by exact_mod_cast this)
    · rw [if_neg hx]
      exact hbig

variable (m : (ℓ : Loc nD τ sig) → Buf (Elt Ideal) ℓ) (ρ : Dev nD → PrngReg) (c : Dev nD)

/-- The class of a candidate in place, read from the kernel's packed column. -/
theorem cls_end (b : Fin 16) (j : Fin 1024) : (atEnd m c (Proc.devRef .tc main_v37) : Vec Ideal S16x1024 .i32) (ix2 b j)
    = Ideal.fptosi 32 (chosen (preds m c) b (ix2 5 j)) := by
  rw [keep_end m c main_v37 (by decide) (by decide) (by decide) (by decide), chosen_at]
  obtain ⟨k, h, h1, h2⟩ := clsL (launchContents m c) b j
  refine h.trans ?_
  rw [← fptosi_class k]
  exact congrArg _ (least_class _ _ k h1 h2).symm

theorem end_xy : finalContents condOps preI bodyI postI 1024 m c (Proc.devRef .tc main_v94) = outXY (preds m c) := by
  classical
  rw [final_eq]
  funext y
  obtain ⟨b, j, k, rfl⟩ : ∃ (b : Fin 16) (j : Fin 1024) (k : Fin 4), y = ix3 b j k := ⟨y 0, y 1, y 2, by funext q; fin_cases q <;> rfl⟩
  refine (post_v94 (atEnd m c) b j k).trans ?_
  rw [keepBit_end, box_end, select_ofBool]
  exact (resXY_at _ j k).symm

theorem end_conf : finalContents condOps preI bodyI postI 1024 m c (Proc.devRef .tc main_v95) = outConf (preds m c) := by
  classical
  rw [final_eq]
  funext y
  obtain ⟨b, j, rfl⟩ : ∃ (b : Fin 16) (j : Fin 1024), y = ix2 b j := ⟨y 0, y 1, by funext q; fin_cases q <;> rfl⟩
  refine (post_v95 (atEnd m c) b j).trans ?_
  rw [keepBit_end, conf_end, select_ofBool]
  exact (resConf_at _ j).symm

theorem end_cls : finalContents condOps preI bodyI postI 1024 m c (Proc.devRef .tc main_v96) = outCls (preds m c) := by
  classical
  rw [final_eq]
  funext y
  obtain ⟨b, j, rfl⟩ : ∃ (b : Fin 16) (j : Fin 1024), y = ix2 b j := ⟨y 0, y 1, by funext q; fin_cases q <;> rfl⟩
  refine (post_v96 (atEnd m c) b j).trans ?_
  rw [keepBit_end, cls_end, select_ofBool]
  refine Eq.trans ?_ (resCls_at (chosen (preds m c) b) j).symm
  by_cases h : kept (chosen (preds m c) b) j
  · rw [if_pos h, if_pos h]
  · rw [if_neg h, if_neg h, fptosi_none]

theorem end_keep : finalContents condOps preI bodyI postI 1024 m c (Proc.devRef .tc main_v84) = outKeep (preds m c) := by
  classical
  rw [final_eq]
  funext y
  obtain ⟨b, j, rfl⟩ : ∃ (b : Fin 16) (j : Fin 1024), y = ix2 b j := ⟨y 0, y 1, by funext q; fin_cases q <;> rfl⟩
  refine (post_v84 (atEnd m c) b j).trans ?_
  rw [keepBit_end]
  refine Eq.trans ?_ (congrArg (fun w => IntOp.cmpi .ne w 0#32) (resKeep_at (chosen (preds m c) b) j).symm)
  by_cases h : kept (chosen (preds m c) b) j
  · simp only [if_pos h, decide_true, h]; rfl
  · simp only [if_neg h, decide_false, h]; rfl

/-- The reference runs and leaves, on every device, the same four results of the predictions as the kernel. -/
theorem run_main : θ_run (defs (F := Ideal)) (onTc (τ := τ) (main (F := Ideal))) ⟨m, fun _ => 0, ρ⟩
    (fun r => ∀ c : Dev nD,
      r.2.mem ((c.tc : Thread nD τ).loc main_v94) = outXY (preds m c)
      ∧ r.2.mem ((c.tc : Thread nD τ).loc main_v95) = outConf (preds m c)
      ∧ r.2.mem ((c.tc : Thread nD τ).loc main_v96) = outCls (preds m c)
      ∧ r.2.mem ((c.tc : Thread nD τ).loc main_v84) = outKeep (preds m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c main_v94 (by decide)).trans (end_xy m c), (h c main_v95 (by decide)).trans (end_conf m c),
      (h c main_v96 (by decide)).trans (end_cls m c), (h c main_v84 (by decide)).trans (end_keep m c),
      (h c main_arg0 (by decide)).trans (Hand.final_arg0 m c), (h c main_arg1 (by decide)).trans (Hand.final_arg1 m c)⟩)
    (run_fold m ρ)

end Cert.ReferenceIdeal.Val
-- ==== Proof.lean ====
/- The proof of the certificate: the frames of the three programs, and what is claimed of their values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.Ref
public import proofs.«01_k».proof.Proof.KI.Run
public import proofs.«01_k».proof.Proof.Val.KRun
public import proofs.«01_k».proof.Proof.Val.RefRun
public import Idealize.ShloMosaic.Adequacy
public import Idealize.ShloMosaic.Init

@[expose] public section

noncomputable section

namespace Cert.Proof

open Idealize.ShloMosaic Idealize.SL.Sem

theorem frame_P : Cert.quiescent_Kernel := fun m ρ _ => Cert.Kernel.Hand.frame m ρ

theorem frame_PI : Cert.quiescent_KernelIdeal := fun m ρ _ => Cert.KernelIdeal.Hand.frame m ρ

theorem frame_RI : Cert.quiescent_ReferenceIdeal := fun m ρ _ => Cert.ReferenceIdeal.Hand.frame m ρ

/-- The kernel and the reference leave the same four results, each of them the named function of the predictions. -/
theorem algebraic : Cert.algebraic_KernelIdeal_ReferenceIdeal := by
  intro m g m' g' _ hargs
  refine ⟨fun c => Cert.KernelIdeal.Val.outXY (Cert.KernelIdeal.Val.preds m c), fun c => Cert.KernelIdeal.Val.outConf (Cert.KernelIdeal.Val.preds m c),
    fun c => Cert.KernelIdeal.Val.outCls (Cert.KernelIdeal.Val.preds m c), fun c => Cert.KernelIdeal.Val.outKeep (Cert.KernelIdeal.Val.preds m c),
    Cert.KernelIdeal.Val.run_main m g, ?_⟩
  refine (θ_run Cert.ReferenceIdeal.defs _ _).mono (fun r h c => ?_) (Cert.ReferenceIdeal.Val.run_main m' g')
  have e : Cert.ReferenceIdeal.Val.preds m' c = Cert.KernelIdeal.Val.preds m c := (hargs c).1
  obtain ⟨h0, h1, h2, h3, h4, h5⟩ := h c
  rw [e] at h0 h1 h2 h3
  exact ⟨h0, h1, h2, h3, h4, h5⟩

theorem claim : Cert.Claim := ⟨Cert.Kernel.Gen.facts, Cert.KernelIdeal.Gen.facts, Cert.ReferenceIdeal.Gen.facts,
  frame_P, frame_PI, frame_RI, trivial, algebraic⟩

end Cert.Proof

end
